-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.PackStatement Cert.KernelIdeal.S128x256
  ∧ IdealRules.bf16_pair.Statement Cert.KernelIdeal.S256x256 Cert.KernelIdeal.S128x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v8) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_v90) = v5 c
          ∧ r.2.mem ((c.tc : Thread Cert.ReferenceIdeal.nD Cert.ReferenceIdeal.τ).loc Cert.ReferenceIdeal.main_v82) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x1536 : Shape := ⟨3, ![4, 384, 1536]⟩
abbrev S4x384x8960 : Shape := ⟨3, ![4, 384, 8960]⟩
abbrev S256x768 : Shape := ⟨2, ![256, 768]⟩
abbrev S256x6 : Shape := ⟨2, ![256, 6]⟩
abbrev S8960x256 : Shape := ⟨2, ![8960, 256]⟩
abbrev S8960x2 : Shape := ⟨2, ![8960, 2]⟩
abbrev S8960x1536 : Shape := ⟨2, ![8960, 1536]⟩
abbrev S8960 : Shape := ⟨1, ![8960]⟩
abbrev S1536x1536 : Shape := ⟨2, ![1536, 1536]⟩
abbrev S1536x8960 : Shape := ⟨2, ![1536, 8960]⟩
abbrev S6x256 : Shape := ⟨2, ![6, 256]⟩
abbrev S2x8960 : Shape := ⟨2, ![2, 8960]⟩
abbrev S1x8960 : Shape := ⟨2, ![1, 8960]⟩
abbrev S1536x256 : Shape := ⟨2, ![1536, 256]⟩
abbrev S256x256 : Shape := ⟨2, ![256, 256]⟩
abbrev S2x256 : Shape := ⟨2, ![2, 256]⟩
abbrev S256x1536 : Shape := ⟨2, ![256, 1536]⟩
abbrev S1x256 : Shape := ⟨2, ![1, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩

abbrev nBuf : Space → Nat
  | .hbm => 26
  | .vmem => 35
  | .smem => 0
  | _ => 0

abbrev bufTy : (tb : Table) → Fin (tcTables nBuf tb) → BufTy
  | .hbm, ⟨0, _⟩ => ⟨S4x384x1536, .bf16⟩
  | .hbm, ⟨1, _⟩ => ⟨S4x384x8960, .bf16⟩
  | .hbm, ⟨2, _⟩ => ⟨S256x768, .i8⟩
  | .hbm, ⟨3, _⟩ => ⟨S256x6, .f32⟩
  | .hbm, ⟨4, _⟩ => ⟨S8960x256, .i8⟩
  | .hbm, ⟨5, _⟩ => ⟨S8960x2, .f32⟩
  | .hbm, ⟨6, _⟩ => ⟨S8960x256, .i8⟩
  | .hbm, ⟨7, _⟩ => ⟨S8960x2, .f32⟩
  | .hbm, ⟨8, _⟩ => ⟨S8960x1536, .i8⟩
  | .hbm, ⟨9, _⟩ => ⟨S8960, .f32⟩
  | .hbm, ⟨10, _⟩ => ⟨S8960x1536, .i8⟩
  | .hbm, ⟨11, _⟩ => ⟨S1536x1536, .bf16⟩
  | .hbm, ⟨12, _⟩ => ⟨S1536x8960, .bf16⟩
  | .hbm, ⟨13, _⟩ => ⟨S6x256, .f32⟩
  | .hbm, ⟨14, _⟩ => ⟨S2x8960, .f32⟩
  | .hbm, ⟨15, _⟩ => ⟨S2x8960, .f32⟩
  | .hbm, ⟨16, _⟩ => ⟨S1x8960, .f32⟩
  | .hbm, ⟨17, _⟩ => ⟨S8960x1536, .i8⟩
  | .hbm, ⟨18, _⟩ => ⟨S8960x1536, .f32⟩
  | .hbm, ⟨19, _⟩ => ⟨S8960x256, .f32⟩
  | .hbm, ⟨20, _⟩ => ⟨S8960x256, .i8⟩
  | .hbm, ⟨21, _⟩ => ⟨S2x8960, .f32⟩
  | .hbm, ⟨22, _⟩ => ⟨S8960x256, .i8⟩
  | .hbm, ⟨23, _⟩ => ⟨S2x8960, .f32⟩
  | .hbm, ⟨24, _⟩ => ⟨S8960x2, .f32⟩
  | .hbm, ⟨25, _⟩ => ⟨S8960x2, .f32⟩
  | .local _ .vmem, ⟨0, _⟩ => ⟨S1536x1536, .bf16⟩
  | .local _ .vmem, ⟨1, _⟩ => ⟨S1536x256, .bf16⟩
  | .local _ .vmem, ⟨2, _⟩ => ⟨S1536x256, .bf16⟩
  | .local _ .vmem, ⟨3, _⟩ => ⟨S256x768, .i8⟩
  | .local _ .vmem, ⟨4, _⟩ => ⟨S6x256, .f32⟩
  | .local _ .vmem, ⟨5, _⟩ => ⟨S256x256, .i8⟩
  | .local _ .vmem, ⟨6, _⟩ => ⟨S256x256, .i8⟩
  | .local _ .vmem, ⟨7, _⟩ => ⟨S2x256, .f32⟩
  | .local _ .vmem, ⟨8, _⟩ => ⟨S2x256, .f32⟩
  | .local _ .vmem, ⟨9, _⟩ => ⟨S256x256, .i8⟩
  | .local _ .vmem, ⟨10, _⟩ => ⟨S256x256, .i8⟩
  | .local _ .vmem, ⟨11, _⟩ => ⟨S2x256, .f32⟩
  | .local _ .vmem, ⟨12, _⟩ => ⟨S2x256, .f32⟩
  | .local _ .vmem, ⟨13, _⟩ => ⟨S256x1536, .i8⟩
  | .local _ .vmem, ⟨14, _⟩ => ⟨S256x1536, .i8⟩
  | .local _ .vmem, ⟨15, _⟩ => ⟨S1x256, .f32⟩
  | .local _ .vmem, ⟨16, _⟩ => ⟨S1x256, .f32⟩
  | .local _ .vmem, ⟨17, _⟩ => ⟨S256x1536, .i8⟩
  | .local _ .vmem, ⟨18, _⟩ => ⟨S256x1536, .i8⟩
  | .local _ .vmem, ⟨19, _⟩ => ⟨S256x1536, .i8⟩
  | .local _ .vmem, ⟨20, _⟩ => ⟨S256x1536, .i8⟩
  | .local _ .vmem, ⟨21, _⟩ => ⟨S256x1536, .f32⟩
  | .local _ .vmem, ⟨22, _⟩ => ⟨S256x1536, .f32⟩
  | .local _ .vmem, ⟨23, _⟩ => ⟨S256x256, .f32⟩
  | .local _ .vmem, ⟨24, _⟩ => ⟨S256x256, .f32⟩
  | .local _ .vmem, ⟨25, _⟩ => ⟨S256x256, .i8⟩
  | .local _ .vmem, ⟨26, _⟩ => ⟨S256x256, .i8⟩
  | .local _ .vmem, ⟨27, _⟩ => ⟨S2x256, .f32⟩
  | .local _ .vmem, ⟨28, _⟩ => ⟨S2x256, .f32⟩
  | .local _ .vmem, ⟨29, _⟩ => ⟨S256x256, .i8⟩
  | .local _ .vmem, ⟨30, _⟩ => ⟨S256x256, .i8⟩
  | .local _ .vmem, ⟨31, _⟩ => ⟨S2x256, .f32⟩
  | .local _ .vmem, ⟨32, _⟩ => ⟨S2x256, .f32⟩
  | .local _ .vmem, ⟨33, _⟩ => ⟨S1536x1536, .bf16⟩
  | .local _ .vmem, ⟨34, _⟩ => ⟨S256x1536, .bf16⟩
  | _, _ => ⟨S4x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [BitOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F]
-- ==== ReferenceIdeal.lean ====
abbrev S4x384x1536 : Shape := ⟨3, ![4, 384, 1536]⟩
abbrev S4x384x8960 : Shape := ⟨3, ![4, 384, 8960]⟩
abbrev S256x768 : Shape := ⟨2, ![256, 768]⟩
abbrev S256x6 : Shape := ⟨2, ![256, 6]⟩
abbrev S8960x256 : Shape := ⟨2, ![8960, 256]⟩
abbrev S8960x2 : Shape := ⟨2, ![8960, 2]⟩
abbrev S8960x1536 : Shape := ⟨2, ![8960, 1536]⟩
abbrev S8960 : Shape := ⟨1, ![8960]⟩
abbrev S256x6x128 : Shape := ⟨3, ![256, 6, 128]⟩
abbrev S_ : Shape := ⟨0, ![]⟩
abbrev S8960x768 : Shape := ⟨2, ![8960, 768]⟩
abbrev S8960x2x128 : Shape := ⟨3, ![8960, 2, 128]⟩
abbrev S8960x2x1 : Shape := ⟨3, ![8960, 2, 1]⟩
abbrev S8960x768x1 : Shape := ⟨3, ![8960, 768, 1]⟩
abbrev S8960x768x2 : Shape := ⟨3, ![8960, 768, 2]⟩
abbrev S8960x1 : Shape := ⟨2, ![8960, 1]⟩

abbrev nBuf : Space → Nat
  | .hbm => 177
  | .vmem => 0
  | .smem => 0
  | _ => 0

abbrev hbmTy0_0 (i : Nat) : BufTy := match i % 128 with
  | 0 => ⟨S4x384x1536, .bf16⟩
  | 1 => ⟨S4x384x8960, .bf16⟩
  | 2 => ⟨S256x768, .i8⟩
  | 3 => ⟨S256x6, .f32⟩
  | 4 => ⟨S8960x256, .i8⟩
  | 5 => ⟨S8960x2, .f32⟩
  | 6 => ⟨S8960x256, .i8⟩
  | 7 => ⟨S8960x2, .f32⟩
  | 8 => ⟨S8960x1536, .i8⟩
  | 9 => ⟨S8960, .f32⟩
  | 10 => ⟨S8960x1536, .i8⟩
  | 11 => ⟨S8960x1536, .f32⟩
  | 12 => ⟨S8960x1536, .bf16⟩
  | 13 => ⟨S256x6x128, .f32⟩
  | 14 => ⟨S256x768, .f32⟩
  | 15 => ⟨S256x768, .bf16⟩
  | 16 => ⟨S256x768, .i32⟩
  | 17 => ⟨S_, .i32⟩
  | 18 => ⟨S256x768, .i32⟩
  | 19 => ⟨S256x768, .i32⟩
  | 20 => ⟨S256x768, .i32⟩
  | 21 => ⟨S_, .i32⟩
  | 22 => ⟨S256x768, .i32⟩
  | 23 => ⟨S256x768, .i32⟩
  | 24 => ⟨S_, .i32⟩
  | 25 => ⟨S256x768, .i32⟩
  | 26 => ⟨S256x768, .i1⟩
  | 27 => ⟨S_, .i32⟩
  | 28 => ⟨S256x768, .i32⟩
  | 29 => ⟨S256x768, .i32⟩
  | 30 => ⟨S256x768, .i32⟩
  | 31 => ⟨S_, .i32⟩
  | 32 => ⟨S256x768, .i32⟩
  | 33 => ⟨S256x768, .i1⟩
  | 34 => ⟨S_, .i32⟩
  | 35 => ⟨S256x768, .i32⟩
  | 36 => ⟨S256x768, .i32⟩
  | 37 => ⟨S256x768, .i32⟩
  | 38 => ⟨S256x768, .bf16⟩
  | 39 => ⟨S256x768, .bf16⟩
  | 40 => ⟨S256x768, .bf16⟩
  | 41 => ⟨S256x768, .bf16⟩
  | 42 => ⟨S8960x768, .bf16⟩
  | 43 => ⟨S8960x256, .f32⟩
  | 44 => ⟨S8960x768, .bf16⟩
  | 45 => ⟨S8960x256, .f32⟩
  | 46 => ⟨S8960x256, .f32⟩
  | 47 => ⟨S8960x256, .i32⟩
  | 48 => ⟨S8960x256, .f32⟩
  | 49 => ⟨S8960x2x128, .f32⟩
  | 50 => ⟨S8960x256, .f32⟩
  | 51 => ⟨S8960x256, .f32⟩
  | 52 => ⟨S8960x256, .i32⟩
  | 53 => ⟨S8960x256, .f32⟩
  | 54 => ⟨S8960x2x128, .f32⟩
  | 55 => ⟨S8960x256, .f32⟩
  | 56 => ⟨S8960x256, .f32⟩
  | 57 => ⟨S_, .f32⟩
  | 58 => ⟨S8960x256, .f32⟩
  | 59 => ⟨S8960x256, .f32⟩
  | 60 => ⟨S_, .f32⟩
  | 61 => ⟨S8960x256, .f32⟩
  | 62 => ⟨S8960x256, .f32⟩
  | 63 => ⟨S8960x256, .f32⟩
  | 64 => ⟨S_, .f32⟩
  | 65 => ⟨S8960x256, .f32⟩
  | 66 => ⟨S8960x256, .f32⟩
  | 67 => ⟨S_, .f32⟩
  | 68 => ⟨S8960x256, .f32⟩
  | 69 => ⟨S8960x256, .f32⟩
  | 70 => ⟨S8960x256, .f32⟩
  | 71 => ⟨S8960x256, .f32⟩
  | 72 => ⟨S_, .f32⟩
  | 73 => ⟨S8960x256, .f32⟩
  | 74 => ⟨S8960x256, .f32⟩
  | 75 => ⟨S_, .f32⟩
  | 76 => ⟨S8960x256, .f32⟩
  | 77 => ⟨S8960x256, .f32⟩
  | 78 => ⟨S8960x256, .f32⟩
  | 79 => ⟨S_, .f32⟩
  | 80 => ⟨S8960x256, .f32⟩
  | 81 => ⟨S8960x256, .f32⟩
  | 82 => ⟨S8960x256, .f32⟩
  | 83 => ⟨S8960x2x128, .f32⟩
  | 84 => ⟨S8960x2x128, .f32⟩
  | 85 => ⟨S_, .f32⟩
  | 86 => ⟨S8960x2, .f32⟩
  | 87 => ⟨S_, .f32⟩
  | 88 => ⟨S8960x2, .f32⟩
  | 89 => ⟨S8960x2, .i1⟩
  | 90 => ⟨S_, .f32⟩
  | 91 => ⟨S8960x2, .f32⟩
  | 92 => ⟨S8960x2, .f32⟩
  | 93 => ⟨S_, .f32⟩
  | 94 => ⟨S_, .f32⟩
  | 95 => ⟨S8960x2, .f32⟩
  | 96 => ⟨S8960x2, .f32⟩
  | 97 => ⟨S8960x2x1, .f32⟩
  | 98 => ⟨S8960x2x128, .f32⟩
  | 99 => ⟨S8960x2x128, .f32⟩
  | 100 => ⟨S8960x2x128, .f32⟩
  | 101 => ⟨S_, .i32⟩
  | 102 => ⟨S_, .i32⟩
  | 103 => ⟨S_, .f32⟩
  | 104 => ⟨S8960x2x128, .f32⟩
  | 105 => ⟨S8960x2x128, .f32⟩
  | 106 => ⟨S_, .f32⟩
  | 107 => ⟨S8960x2x128, .f32⟩
  | 108 => ⟨S8960x2x128, .f32⟩
  | 109 => ⟨S8960x2x128, .i32⟩
  | 110 => ⟨S8960x2x128, .i8⟩
  | 111 => ⟨S8960x256, .i8⟩
  | 112 => ⟨S8960x2x128, .f32⟩
  | 113 => ⟨S8960x2x128, .f32⟩
  | 114 => ⟨S_, .f32⟩
  | 115 => ⟨S8960x2, .f32⟩
  | 116 => ⟨S_, .f32⟩
  | 117 => ⟨S8960x2, .f32⟩
  | 118 => ⟨S8960x2, .i1⟩
  | 119 => ⟨S_, .f32⟩
  | 120 => ⟨S8960x2, .f32⟩
  | 121 => ⟨S8960x2, .f32⟩
  | 122 => ⟨S_, .f32⟩
  | 123 => ⟨S_, .f32⟩
  | 124 => ⟨S8960x2, .f32⟩
  | 125 => ⟨S8960x2, .f32⟩
  | 126 => ⟨S8960x2x1, .f32⟩
  | 127 => ⟨S8960x2x128, .f32⟩
  | _ => ⟨S4x384x1536, .bf16⟩

abbrev hbmTy0_1 (i : Nat) : BufTy := match i % 128 with
  | 0 => ⟨S8960x2x128, .f32⟩
  | 1 => ⟨S8960x2x128, .f32⟩
  | 2 => ⟨S_, .i32⟩
  | 3 => ⟨S_, .i32⟩
  | 4 => ⟨S_, .f32⟩
  | 5 => ⟨S8960x2x128, .f32⟩
  | 6 => ⟨S8960x2x128, .f32⟩
  | 7 => ⟨S_, .f32⟩
  | 8 => ⟨S8960x2x128, .f32⟩
  | 9 => ⟨S8960x2x128, .f32⟩
  | 10 => ⟨S8960x2x128, .i32⟩
  | 11 => ⟨S8960x2x128, .i8⟩
  | 12 => ⟨S8960x256, .i8⟩
  | 13 => ⟨S8960x256, .bf16⟩
  | 14 => ⟨S8960x768, .f32⟩
  | 15 => ⟨S8960x768, .f32⟩
  | 16 => ⟨S8960x768x1, .f32⟩
  | 17 => ⟨S8960x768x1, .f32⟩
  | 18 => ⟨S8960x768x2, .f32⟩
  | 19 => ⟨S8960x1536, .f32⟩
  | 20 => ⟨S_, .f32⟩
  | 21 => ⟨S8960x1536, .f32⟩
  | 22 => ⟨S8960x1536, .f32⟩
  | 23 => ⟨S8960x1536, .i32⟩
  | 24 => ⟨S8960x1536, .f32⟩
  | 25 => ⟨S8960x1, .f32⟩
  | 26 => ⟨S8960x1536, .f32⟩
  | 27 => ⟨S8960x1536, .f32⟩
  | 28 => ⟨S8960x1536, .f32⟩
  | 29 => ⟨S8960x1536, .i32⟩
  | 30 => ⟨S8960x1536, .f32⟩
  | 31 => ⟨S_, .f32⟩
  | 32 => ⟨S8960x1536, .f32⟩
  | 33 => ⟨S8960x1536, .f32⟩
  | 34 => ⟨S8960x1, .f32⟩
  | 35 => ⟨S8960x1536, .f32⟩
  | 36 => ⟨S8960x1536, .f32⟩
  | 37 => ⟨S8960x1536, .f32⟩
  | 38 => ⟨S8960x1536, .f32⟩
  | 39 => ⟨S_, .i32⟩
  | 40 => ⟨S_, .i32⟩
  | 41 => ⟨S_, .f32⟩
  | 42 => ⟨S8960x1536, .f32⟩
  | 43 => ⟨S8960x1536, .f32⟩
  | 44 => ⟨S_, .f32⟩
  | 45 => ⟨S8960x1536, .f32⟩
  | 46 => ⟨S8960x1536, .f32⟩
  | 47 => ⟨S8960x1536, .i32⟩
  | 48 => ⟨S8960x1536, .i8⟩
  | _ => ⟨S4x384x1536, .bf16⟩

abbrev hbmTy (i : Nat) : BufTy := match i / 128 with
  | 0 => hbmTy0_0 i
  | 1 => hbmTy0_1 i
  | _ => ⟨S4x384x1536, .bf16⟩

abbrev bufTy : (tb : Table) → Fin (tcTables nBuf tb) → BufTy
  | .hbm, ⟨i, _⟩ => hbmTy i
  | _, _ => ⟨S4x384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_c_16 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_cst_18 : Ref sig .tc := ⟨.hbm, 116, rfl⟩
abbrev main_v78 : Ref sig .tc := ⟨.hbm, 117, rfl⟩
abbrev main_v79 : Ref sig .tc := ⟨.hbm, 118, rfl⟩
abbrev main_cst_19 : Ref sig .tc := ⟨.hbm, 119, rfl⟩
abbrev main_v80 : Ref sig .tc := ⟨.hbm, 120, rfl⟩
abbrev main_v81 : Ref sig .tc := ⟨.hbm, 121, rfl⟩
abbrev main_cst_20 : Ref sig .tc := ⟨.hbm, 122, rfl⟩
abbrev main_call5_v0 : Ref sig .tc := ⟨.hbm, 123, rfl⟩
abbrev main_call5_v1 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_21 : Ref sig .tc := ⟨.hbm, 130, rfl⟩
abbrev main_c_22 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_23 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_24 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_25 : Ref sig .tc := ⟨.hbm, 167, rfl⟩
abbrev main_c_26 : Ref sig .tc := ⟨.hbm, 168, rfl⟩
abbrev main_call8_v0 : Ref sig .tc := ⟨.hbm, 169, rfl⟩
abbrev main_call8_v1 : Ref sig .tc := ⟨.hbm, 170, rfl⟩
abbrev main_call8_v2 : Ref sig .tc := ⟨.hbm, 171, rfl⟩
abbrev main_call8_v3 : Ref sig .tc := ⟨.hbm, 172, rfl⟩
abbrev main_call8_v4 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩

abbrev nD : Nat := 1
abbrev τ : Topo := Topo.v7x

variable {F : FTy → Type} [FloatOps F]
-- ==== Proof.Model.lean ====
module

public import Idealize.ShloMosaic.Lib.Pointwise

@[expose] public section

set_option maxRecDepth 16384

noncomputable section

open Idealize.ShloMosaic

/-!
# The update of one output row, over the extended reals

Everything the program computes for an output feature `o` (a row of the weight) depends on the activations,
on the projector, and on row `o` of the gradient, of the two Adam moments, of the weight and of the random
bytes.  `Row` is that data; the definitions below are the update, one number at a time.  No array and no
block appears here: the kernel and the reference are both compared with these formulas.
-/
namespace Cert.Galore

/-- The group of 128 lanes a lane of the 256-wide projected row lies in. -/
def grp (j : Fin 256) : Fin 2 := ⟨j.val / 128, by omega⟩

/-- Lane `k` of group `g` as a lane of the projected row. -/
def lane (g : Fin 2) (k : Fin 128) : Fin 256 := ⟨128 * g.val + k.val, by omega⟩

/-- The low four bits of a byte, as a signed number. -/
def nibLo (c : BitVec 8) : ℤ := (c.extractLsb' 0 4).toInt

/-- The high four bits of a byte, as a signed number. -/
def nibHi (c : BitVec 8) : ℤ := (c.extractLsb' 4 4).toInt

/-- The projector at column `d` of a row: column `2k` is the low half of byte `k`, column `2k + 1` the high
half, each times the scale of its 256 columns. -/
def decode (c : Fin 768 → BitVec 8) (s : Fin 6 → EReal) (d : Fin 1536) : EReal :=
  (((if d.val % 2 = 0 then nibLo (c ⟨d.val / 2, by omega⟩) else nibHi (c ⟨d.val / 2, by omega⟩) : ℤ) : ℝ) :
      EReal) * s ⟨d.val / 256, by omega⟩

/-- The first moment: `0.9` of the old one (code times scale) plus `0.1` of the projected gradient. -/
def momM (c : BitVec 8) (s r : EReal) : EReal :=
  Ideal.ofBits .f32 0x3F666666#32 * (FloatOps.sitofp (F := Ideal) .f32 c * s) + Ideal.ofBits .f32 0x3DCCCCCD#32 * r

/-- The second moment: `0.999` of the old one plus `0.001` of the projected gradient squared. -/
def momV (c : BitVec 8) (s r : EReal) : EReal :=
  Ideal.ofBits .f32 0x3F7FBE77#32 * (FloatOps.sitofp (F := Ideal) .f32 c * s)
    + Ideal.ofBits .f32 0x3A83126F#32 * r * r

/-- Adam's direction from the two moments, with the bias corrections and the added epsilon. -/
def dirOf (m v : EReal) : EReal :=
  Ideal.div (Ideal.div m (Ideal.ofBits .f32 0x3F26BD02#32))
    (Ideal.sqrt (Ideal.div v (Ideal.ofBits .f32 0x3C231ACC#32)) + Ideal.ofBits .f32 0x322BCC77#32)

/-- The largest magnitude of a group. -/
def amax (f : Fin 128 → EReal) : EReal :=
  Finset.univ.fold max (Ideal.ofBits .f32 0xFF800000#32) fun k => FloatOps.absf (F := Ideal) (φ := .f32) (f k)

/-- The scale of a group: its largest magnitude over 127, or one for a group of zeros. -/
def scaleOf (a : EReal) : EReal := if a = 0 then 1 else Ideal.div a (Ideal.ofBits .f32 0x42FE0000#32)

/-- A number clamped to `[-127, 127]` and stored as a byte. -/
def clampByte (x : EReal) : BitVec 8 :=
  Ideal.fptosi 8 (min (((127#32 : BitVec 32).toInt : ℝ) : EReal)
    (max (((4294967169#32 : BitVec 32).toInt : ℝ) : EReal) x))

/-- The code of a number under a scale: their quotient rounded to the nearest integer and clamped. -/
def quant (x s : EReal) : BitVec 8 := clampByte (Ideal.liftRound Ideal.roundHalfEven (Ideal.div x s))

/-- The new weight code: the old weight less the step, over the scale, plus a random fraction, rounded down
and clamped. -/
def stoch (c : BitVec 8) (ws δ : EReal) (sr : BitVec 8) : BitVec 8 :=
  clampByte (Ideal.liftRound Int.floor (Ideal.div (FloatOps.sitofp (F := Ideal) .f32 c * ws - δ) ws
    + FloatOps.sitofp (F := Ideal) .f32 (BitVec.setWidth 32 sr) * Ideal.ofBits .f32 0x3B800000#32))

/-- What the update of one output row reads. -/
structure Row where
  /-- the activations, feature first: `X d t` is feature `d` of token `t` -/
  X : Fin 1536 → Fin 1536 → EReal
  /-- the gradient of the row's output at each token -/
  D : Fin 1536 → EReal
  /-- the decoded projector -/
  P : Fin 256 → Fin 1536 → EReal
  /-- the first moment's codes -/
  mc : Fin 256 → BitVec 8
  /-- the first moment's scales -/
  ms : Fin 2 → EReal
  /-- the second moment's codes -/
  vc : Fin 256 → BitVec 8
  /-- the second moment's scales -/
  vs : Fin 2 → EReal
  /-- the weight's codes -/
  wc : Fin 1536 → BitVec 8
  /-- the weight's scale -/
  ws : EReal
  /-- the random bytes -/
  sr : Fin 1536 → BitVec 8

namespace Row
variable (a : Row)

/-- The projected gradient: the projector times the gradient of the weight's row. -/
def r (j : Fin 256) : EReal := ∑ d : Fin 1536, a.P j d * ∑ t : Fin 1536, a.X d t * a.D t

/-- The new first moment. -/
def m (j : Fin 256) : EReal := momM (a.mc j) (a.ms (grp j)) (a.r j)

/-- The new second moment. -/
def v (j : Fin 256) : EReal := momV (a.vc j) (a.vs (grp j)) (a.r j)

/-- Adam's direction in the projected space. -/
def n (j : Fin 256) : EReal := dirOf (a.m j) (a.v j)

/-- The new scale of a group of the first moment. -/
def mS (g : Fin 2) : EReal := scaleOf (amax fun k => a.m (lane g k))

/-- The new scale of a group of the second moment. -/
def vS (g : Fin 2) : EReal := scaleOf (amax fun k => a.v (lane g k))

/-- The new codes of the first moment. -/
def mC (j : Fin 256) : BitVec 8 := quant (a.m j) (a.mS (grp j))

/-- The new codes of the second moment. -/
def vC (j : Fin 256) : BitVec 8 := quant (a.v j) (a.vS (grp j))

/-- The step of the weight: the direction projected back, times the learning rate and the scale of the update. -/
def delta (d : Fin 1536) : EReal := Ideal.ofBits .f32 0x3A83126F#32 * ∑ k : Fin 256, a.n k * a.P k d

/-- The new codes of the weight. -/
def w (d : Fin 1536) : BitVec 8 := stoch (a.wc d) a.ws (a.delta d) (a.sr d)

end Row
end Cert.Galore
end
-- ==== Proof.Block.lean ====
module

public import proofs.«01_k».proof.Proof.Gen.KernelIdeal.Skeleton
public import proofs.«01_k».proof.Proof.Model
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

/-!
# What one grid point computes, row by row

`Blk` is what the body reads at a grid point: the transposed activations and the decoded projector held in the
two scratch buffers, and the blocks of the operands.  `Blk.row b i` is row `i` of it, in the form of `Row`; each
theorem reads one intermediate array of the body at an index and finds the formula of `Row`.
-/
namespace Cert.KernelIdeal.Block
open Cert.KernelIdeal Cert.KernelIdeal.Gen Cert.Galore

/-- What the body reads at a grid point. -/
structure Blk where
  XT : Vec Ideal S1536x1536 .bf16
  x1 : Vec Ideal S1536x256 .bf16
  P : Vec Ideal S256x1536 .bf16
  x4 : Vec Ideal S256x256 .i8
  x5 : Vec Ideal S2x256 .f32
  x6 : Vec Ideal S256x256 .i8
  x7 : Vec Ideal S2x256 .f32
  x8 : Vec Ideal S256x1536 .i8
  x9 : Vec Ideal S1x256 .f32
  x10 : Vec Ideal S256x1536 .i8

namespace Blk
variable (b : Blk)

/-- Row `i` of a block. -/
def row (i : Fin 256) : Row where
  X d t := b.XT (ix2 d t)
  D t := b.x1 (ix2 t i)
  P k d := b.P (ix2 k d)
  mc j := b.x4 (ix2 i j)
  ms g := b.x5 (ix2 g i)
  vc j := b.x6 (ix2 i j)
  vs g := b.x7 (ix2 g i)
  wc d := b.x8 (ix2 i d)
  ws := b.x9 (ix2 0 i)
  sr d := b.x10 (ix2 i d)

/-- The projected gradient of the block. -/
abbrev R : Vec Ideal S256x256 .f32 := k0_pay22 (F := Ideal) b.XT b.x1 b.P

/-- The new first moment, lanes 0 to 127. -/
abbrev M0 : Vec Ideal S256x128 .f32 :=
  k0_pay24 (F := Ideal) b.XT b.x1 b.P (View.ld b.x4 (Rect.unit ![0, 0] ![256, 128] inb_S256x256_S256x128_0_0))
    (View.ld b.x5 (Rect.unit ![0, 0] ![1, 256] inb_S2x256_S1x256_0_0))

/-- The new first moment, lanes 128 to 255. -/
abbrev M1 : Vec Ideal S256x128 .f32 :=
  k0_pay39 (F := Ideal) b.R (View.ld b.x4 (Rect.unit ![0, 128] ![256, 128] inb_S256x256_S256x128_0_128))
    (View.ld b.x5 (Rect.unit ![1, 0] ![1, 256] inb_S2x256_S1x256_1_0))

/-- The share of the old second moment in the new one, lanes 0 to 127. -/
abbrev B0 : Vec Ideal S256x128 .f32 :=
  k0_pay25 (F := Ideal) (View.ld b.x6 (Rect.unit ![0, 0] ![256, 128] inb_S256x256_S256x128_0_0))
    (View.ld b.x7 (Rect.unit ![0, 0] ![1, 256] inb_S2x256_S1x256_0_0))

/-- The share of the old second moment in the new one, lanes 128 to 255. -/
abbrev B1 : Vec Ideal S256x128 .f32 :=
  k0_pay40 (F := Ideal) (View.ld b.x6 (Rect.unit ![0, 128] ![256, 128] inb_S256x256_S256x128_0_128))
    (View.ld b.x7 (Rect.unit ![1, 0] ![1, 256] inb_S2x256_S1x256_1_0))

/-- The projected gradient, lanes 0 to 127. -/
abbrev R0 : Vec Ideal S256x128 .f32 := k0_pay23 (F := Ideal) b.XT b.x1 b.P

/-- The projected gradient, lanes 128 to 255. -/
abbrev R1 : Vec Ideal S256x128 .f32 := k0_pay38 (F := Ideal) b.R

/-- The new second moment, lanes 0 to 127. -/
abbrev V0 : Vec Ideal S256x128 .f32 := k0_pay27 (F := Ideal) b.R0 b.B0 (k0_pay26 (F := Ideal))

/-- The new second moment, lanes 128 to 255. -/
abbrev V1 : Vec Ideal S256x128 .f32 := k0_pay41 (F := Ideal) b.R1 b.B1

/-- The direction of the block, as the second product reads it. -/
abbrev N : Vec Ideal S256x256 .bf16 :=
  k0_pay53 (F := Ideal) (k0_pay29 (F := Ideal) b.R0 b.M0 b.B0 (k0_pay26 (F := Ideal))) (k0_pay43 (F := Ideal) b.R1 b.M1 b.B1)

/-- The weight's scale, one per row, along a block's lanes. -/
abbrev W : Vec Ideal S256x256 .f32 := k0_pay54 (F := Ideal) (View.ld b.x9 (Rect.unit ![0, 0] ![1, 256] inb_S1x256_S1x256_0_0))

variable (i : Fin 256)

theorem lane0 (l : Fin 128) : lane 0 l = ⟨l.val, by omega⟩ := by
  apply Fin.ext; simp [lane]

theorem lane1 (l : Fin 128) : lane 1 l = ⟨128 + l.val, by omega⟩ := by
  apply Fin.ext; simp [lane]

theorem grp_lane (g : Fin 2) (l : Fin 128) : grp (lane g l) = g := by
  apply Fin.ext; simp only [grp, lane]; omega

/-- The projected gradient of the block at row `i`. -/
theorem R_at (j : Fin 256) : b.R (ix2 i j) = (b.row i).r j := by
  pointwise [k0_pay22]
  rfl

/-- The new first moment at row `i`, lanes 0 to 127. -/
theorem M0_at (l : Fin 128) : b.M0 (ix2 i l) = (b.row i).m (lane 0 l) := by
  unfold Row.m
  rw [grp_lane, ← b.R_at, lane0]
  pointwise [k0_pay24, k0_pay23]
  rfl

/-- The new first moment at row `i`, lanes 128 to 255. -/
theorem M1_at (l : Fin 128) : b.M1 (ix2 i l) = (b.row i).m (lane 1 l) := by
  unfold Row.m
  rw [grp_lane, ← b.R_at, lane1]
  pointwise [k0_pay39, k0_pay38]
  rfl

/-- The new second moment at row `i`, lanes 0 to 127. -/
theorem V0_at (l : Fin 128) : b.V0 (ix2 i l) = (b.row i).v (lane 0 l) := by
  unfold Row.v
  rw [grp_lane, ← b.R_at, lane0]
  pointwise [k0_pay27, k0_pay25, k0_pay26, k0_pay23]
  rfl

/-- The new second moment at row `i`, lanes 128 to 255. -/
theorem V1_at (l : Fin 128) : b.V1 (ix2 i l) = (b.row i).v (lane 1 l) := by
  unfold Row.v
  rw [grp_lane, ← b.R_at, lane1]
  pointwise [k0_pay41, k0_pay40, k0_pay38]
  rfl

/-- The direction at row `i`, lanes 0 to 127. -/
theorem n0_at (l : Fin 128) : k0_pay28 (F := Ideal) b.R0 b.M0 b.B0 (k0_pay26 (F := Ideal)) (ix2 i l) = (b.row i).n (lane 0 l) := by
  unfold Row.n
  rw [← b.M0_at i l, ← b.V0_at i l]
  pointwise [k0_pay28]
  rfl

/-- The direction at row `i`, lanes 128 to 255. -/
theorem n1_at (l : Fin 128) : k0_pay42 (F := Ideal) b.R1 b.M1 b.B1 (ix2 i l) = (b.row i).n (lane 1 l) := by
  unfold Row.n
  rw [← b.M1_at i l, ← b.V1_at i l]
  pointwise [k0_pay42]
  rfl

/-- The direction at row `i`, as the second product reads it. -/
theorem N_at (j : Fin 256) : b.N (ix2 i j) = (b.row i).n j := by
  pointwise [k0_pay53]
  split
  · next h =>
    have e : j = lane 0 ⟨j.val, h⟩ := by apply Fin.ext; simp [lane]
    conv_rhs => rw [e]
    rw [← b.n0_at]
    pointwise [k0_pay29]
  · next h =>
    have e : j = lane 1 ⟨j.val - 128, by omega⟩ := by apply Fin.ext; simp only [lane]; omega
    conv_rhs => rw [e]
    rw [← b.n1_at]
    pointwise [k0_pay43]

/-- The scale of the first moment's group 0 at row `i`. -/
theorem mS0_at : k0_pay30 (F := Ideal) b.M0 (ix2 i 0) = (b.row i).mS 0 := by
  unfold Row.mS
  simp only [← b.M0_at i]
  pointwise [k0_pay30]
  rfl

/-- The scale of the first moment's group 1 at row `i`. -/
theorem mS1_at : k0_pay44 (F := Ideal) b.M1 (ix2 i 0) = (b.row i).mS 1 := by
  unfold Row.mS
  simp only [← b.M1_at i]
  pointwise [k0_pay44]
  rfl

/-- The scales of the first moment at row `i`, groups along the first axis. -/
theorem mS_at (g : Fin 2) : k0_pay51 (F := Ideal) (k0_pay32 (F := Ideal) b.M0) (k0_pay46 (F := Ideal) b.M1) (ix2 g i) = (b.row i).mS g := by
  pointwise [k0_pay51, k0_pay32, k0_pay46]
  split
  · next h =>
    obtain rfl : g = 0 := by omega
    exact b.mS0_at i
  · next h =>
    obtain rfl : g = 1 := by omega
    exact b.mS1_at i

/-- The codes of the first moment at row `i`, lanes 0 to 127. -/
theorem mC0_at (l : Fin 128) : k0_pay31 (F := Ideal) b.M0 (ix2 i l) = (b.row i).mC (lane 0 l) := by
  unfold Row.mC
  rw [grp_lane, ← b.mS0_at i, ← b.M0_at i]
  pointwise [k0_pay31]
  rfl

/-- The codes of the first moment at row `i`, lanes 128 to 255. -/
theorem mC1_at (l : Fin 128) : k0_pay45 (F := Ideal) b.M1 (ix2 i l) = (b.row i).mC (lane 1 l) := by
  unfold Row.mC
  rw [grp_lane, ← b.mS1_at i, ← b.M1_at i]
  pointwise [k0_pay45]
  rfl

/-- The largest magnitude of the second moment's group 0. -/
abbrev A0 : Vec Ideal S256x1 .f32 := k0_pay33 (F := Ideal) b.R0 b.B0 (k0_pay26 (F := Ideal))

/-- The largest magnitude of the second moment's group 1. -/
abbrev A1 : Vec Ideal S256x1 .f32 := k0_pay47 (F := Ideal) b.R1 b.B1

theorem A0_at : b.A0 (ix2 i 0) = amax fun k => (b.row i).v (lane 0 k) := by
  simp only [← b.V0_at i]
  pointwise [k0_pay33]
  rfl

theorem A1_at : b.A1 (ix2 i 0) = amax fun k => (b.row i).v (lane 1 k) := by
  simp only [← b.V1_at i]
  pointwise [k0_pay47]
  rfl

/-- The scales of the second moment at row `i`, groups along the first axis. -/
theorem vS_at (g : Fin 2) :
    k0_pay52 (F := Ideal) (k0_pay37 (F := Ideal) b.A0 (k0_pay34 (F := Ideal) b.R0 b.B0 (k0_pay26 (F := Ideal))) (FloatOps.ofBits FTy.f32 1123942400#32))
      b.A1 (k0_pay48 (F := Ideal)) (ix2 g i) = (b.row i).vS g := by
  unfold Row.vS
  pointwise [k0_pay52]
  split
  · next h =>
    obtain rfl : g = 0 := by omega
    rw [← b.A0_at i]
    pointwise [k0_pay37, k0_pay34, k0_pay35]
    rfl
  · next h =>
    obtain rfl : g = 1 := by omega
    rw [← b.A1_at i]
    pointwise [k0_pay49, k0_pay48]
    rfl

/-- The codes of the second moment at row `i`, lanes 0 to 127. -/
theorem vC0_at (l : Fin 128) :
    k0_pay36 (F := Ideal) b.V0 b.A0 (k0_pay34 (F := Ideal) b.R0 b.B0 (k0_pay26 (F := Ideal))) (FloatOps.ofBits FTy.f32 1123942400#32) (ix2 i l)
      = (b.row i).vC (lane 0 l) := by
  unfold Row.vC Row.vS
  rw [grp_lane, ← b.V0_at i, ← b.A0_at i]
  pointwise [k0_pay36, k0_pay34, k0_pay35]
  rfl

/-- The codes of the second moment at row `i`, lanes 128 to 255. -/
theorem vC1_at (l : Fin 128) : k0_pay50 (F := Ideal) b.V1 b.A1 (k0_pay48 (F := Ideal)) (ix2 i l) = (b.row i).vC (lane 1 l) := by
  unfold Row.vC Row.vS
  rw [grp_lane, ← b.V1_at i, ← b.A1_at i]
  pointwise [k0_pay50, k0_pay49, k0_pay48]
  rfl

end Blk
end Cert.KernelIdeal.Block
end
-- ==== Proof.Weight.lean ====
module

public import proofs.«01_k».proof.Proof.Block

@[expose] public section

set_option maxRecDepth 16384

noncomputable section

open Idealize.ShloMosaic Idealize.ShloMosaic.TcCoe Idealize.SL.Sem
open Idealize.ShloMosaic.Pipeline (Dat)

/-!
# The step and the new weight codes of a block, six chunks of 256 columns
-/
namespace Cert.KernelIdeal.Block.Blk
open Cert.KernelIdeal Cert.KernelIdeal.Gen Cert.Galore
variable (b : Blk) (i : Fin 256)

/-- The weight's scale at row `i`. -/
theorem W_at (l : Fin 256) : b.W (ix2 i l) = (b.row i).ws := by
  pointwise [k0_pay54]
  split <;> rfl

/-- The step at row `i`, columns 0 to 255. -/
theorem d0_at (l : Fin 256) :
    k0_pay55 (F := Ideal) (k0_pay29 (F := Ideal) b.R0 b.M0 b.B0 (k0_pay26 (F := Ideal))) (k0_pay43 (F := Ideal) b.R1 b.M1 b.B1) (View.ld b.P (Rect.unit ![0, 0] ![256, 256] inb_S256x1536_S256x256_0_0)) (ix2 i l)
      = (b.row i).delta ⟨l.val, by omega⟩ := by
  unfold Row.delta
  simp only [← b.N_at i]
  change k0_pay57 (F := Ideal) b.N (View.ld b.P (Rect.unit ![0, 0] ![256, 256] inb_S256x1536_S256x256_0_0)) (ix2 i l) = _
  pointwise [k0_pay57]
  rfl

/-- The step at row `i`, columns 256 to 511. -/
theorem d1_at (l : Fin 256) :
    k0_pay57 (F := Ideal) b.N (View.ld b.P (Rect.unit ![0, 256] ![256, 256] inb_S256x1536_S256x256_0_256)) (ix2 i l)
      = (b.row i).delta ⟨256 + l.val, by omega⟩ := by
  unfold Row.delta
  simp only [← b.N_at i]
  pointwise [k0_pay57]
  rfl

/-- The step at row `i`, columns 512 to 767. -/
theorem d2_at (l : Fin 256) :
    k0_pay61 (F := Ideal) b.N (View.ld b.P (Rect.unit ![0, 512] ![256, 256] inb_S256x1536_S256x256_0_512)) (ix2 i l)
      = (b.row i).delta ⟨512 + l.val, by omega⟩ := by
  unfold Row.delta
  simp only [← b.N_at i]
  pointwise [k0_pay61]
  rfl

/-- The step at row `i`, columns 768 to 1023. -/
theorem d3_at (l : Fin 256) :
    k0_pay63 (F := Ideal) b.N (View.ld b.P (Rect.unit ![0, 768] ![256, 256] inb_S256x1536_S256x256_0_768)) (ix2 i l)
      = (b.row i).delta ⟨768 + l.val, by omega⟩ := by
  unfold Row.delta
  simp only [← b.N_at i]
  pointwise [k0_pay63]
  rfl

/-- The step at row `i`, columns 1024 to 1279. -/
theorem d4_at (l : Fin 256) :
    k0_pay65 (F := Ideal) b.N (View.ld b.P (Rect.unit ![0, 1024] ![256, 256] inb_S256x1536_S256x256_0_1024)) (ix2 i l)
      = (b.row i).delta ⟨1024 + l.val, by omega⟩ := by
  unfold Row.delta
  simp only [← b.N_at i]
  pointwise [k0_pay65]
  rfl

/-- The step at row `i`, columns 1280 to 1535. -/
theorem d5_at (l : Fin 256) :
    k0_pay69 (F := Ideal) b.N (View.ld b.P (Rect.unit ![0, 1280] ![256, 256] inb_S256x1536_S256x256_0_1280)) (ix2 i l)
      = (b.row i).delta ⟨1280 + l.val, by omega⟩ := by
  unfold Row.delta
  simp only [← b.N_at i]
  pointwise [k0_pay69]
  rfl

/-- The new weight codes at row `i`, columns 0 to 255. -/
theorem w0_at (l : Fin 256) :
    k0_pay56 (F := Ideal) b.W (k0_pay55 (F := Ideal) (k0_pay29 (F := Ideal) b.R0 b.M0 b.B0 (k0_pay26 (F := Ideal))) (k0_pay43 (F := Ideal) b.R1 b.M1 b.B1) (View.ld b.P (Rect.unit ![0, 0] ![256, 256] inb_S256x1536_S256x256_0_0))) (View.ld b.x8 (Rect.unit ![0, 0] ![256, 256] inb_S256x1536_S256x256_0_0)) (View.ld b.x10 (Rect.unit ![0, 0] ![256, 256] inb_S256x1536_S256x256_0_0)) (ix2 i l)
      = (b.row i).w ⟨l.val, by omega⟩ := by
  unfold Row.w
  rw [← b.W_at i l, ← b.d0_at i l]
  pointwise [k0_pay56]
  rfl

/-- The new weight codes at row `i`, columns 256 to 511. -/
theorem w1_at (l : Fin 256) :
    k0_pay60 (F := Ideal) (k0_pay58 (F := Ideal) b.N b.W (View.ld b.P (Rect.unit ![0, 256] ![256, 256] inb_S256x1536_S256x256_0_256)) (View.ld b.x8 (Rect.unit ![0, 256] ![256, 256] inb_S256x1536_S256x256_0_256)) (View.ld b.x10 (Rect.unit ![0, 256] ![256, 256] inb_S256x1536_S256x256_0_256))) (127#32) (k0_pay59 (F := Ideal)) (ix2 i l)
      = (b.row i).w ⟨256 + l.val, by omega⟩ := by
  unfold Row.w
  rw [← b.W_at i l, ← b.d1_at i l]
  pointwise [k0_pay60, k0_pay58, k0_pay59]
  rfl

/-- The new weight codes at row `i`, columns 512 to 767. -/
theorem w2_at (l : Fin 256) :
    k0_pay62 (F := Ideal) b.N b.W (View.ld b.P (Rect.unit ![0, 512] ![256, 256] inb_S256x1536_S256x256_0_512)) (View.ld b.x8 (Rect.unit ![0, 512] ![256, 256] inb_S256x1536_S256x256_0_512)) (View.ld b.x10 (Rect.unit ![0, 512] ![256, 256] inb_S256x1536_S256x256_0_512)) (ix2 i l)
      = (b.row i).w ⟨512 + l.val, by omega⟩ := by
  unfold Row.w
  rw [← b.W_at i l, ← b.d2_at i l]
  pointwise [k0_pay62]
  rfl

/-- The new weight codes at row `i`, columns 768 to 1023. -/
theorem w3_at (l : Fin 256) :
    k0_pay64 (F := Ideal) b.W (k0_pay63 (F := Ideal) b.N (View.ld b.P (Rect.unit ![0, 768] ![256, 256] inb_S256x1536_S256x256_0_768))) (View.ld b.x8 (Rect.unit ![0, 768] ![256, 256] inb_S256x1536_S256x256_0_768)) (View.ld b.x10 (Rect.unit ![0, 768] ![256, 256] inb_S256x1536_S256x256_0_768)) (ix2 i l)
      = (b.row i).w ⟨768 + l.val, by omega⟩ := by
  unfold Row.w
  rw [← b.W_at i l, ← b.d3_at i l]
  pointwise [k0_pay64]
  rfl

/-- The new weight codes at row `i`, columns 1024 to 1279. -/
theorem w4_at (l : Fin 256) :
    k0_pay68 (F := Ideal) b.W (k0_pay66 (F := Ideal) b.N b.W (View.ld b.P (Rect.unit ![0, 1024] ![256, 256] inb_S256x1536_S256x256_0_1024)) (View.ld b.x8 (Rect.unit ![0, 1024] ![256, 256] inb_S256x1536_S256x256_0_1024))) (k0_pay67 (F := Ideal) (View.ld b.x10 (Rect.unit ![0, 1024] ![256, 256] inb_S256x1536_S256x256_0_1024))) (ix2 i l)
      = (b.row i).w ⟨1024 + l.val, by omega⟩ := by
  unfold Row.w
  rw [← b.W_at i l, ← b.d4_at i l]
  pointwise [k0_pay68, k0_pay66, k0_pay67]
  rfl

/-- The new weight codes at row `i`, columns 1280 to 1535. -/
theorem w5_at (l : Fin 256) :
    k0_pay1 (F := Ideal) (k0_pay70 (F := Ideal) b.N b.W (View.ld b.P (Rect.unit ![0, 1280] ![256, 256] inb_S256x1536_S256x256_0_1280)) (View.ld b.x8 (Rect.unit ![0, 1280] ![256, 256] inb_S256x1536_S256x256_0_1280)) (View.ld b.x10 (Rect.unit ![0, 1280] ![256, 256] inb_S256x1536_S256x256_0_1280))) (k0_pay71 (F := Ideal)) (ix2 i l)
      = (b.row i).w ⟨1280 + l.val, by omega⟩ := by
  unfold Row.w
  rw [← b.W_at i l, ← b.d5_at i l]
  pointwise [k0_pay1, k0_pay70, k0_pay71]
  rfl

end Cert.KernelIdeal.Block.Blk
end
-- ==== Proof.Outs.lean ====
module

public import proofs.«01_k».proof.Proof.Weight
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

/-!
# What one grid point leaves in each output block, the scratch buffers holding given arrays

One theorem per output: the block the body leaves there, at every index, is the formula of `Row` for that row.
-/
namespace Cert.KernelIdeal.Block
open Cert.KernelIdeal Cert.KernelIdeal.Gen Cert.Galore

theorem hz2 : (![0, 0] : Fin 2 → ℕ) = fun _ => 0 := by decide

/-- A store of the rectangle with corner `(a, b)` agrees with an array `G` when it does so at every pair of
indices. -/
theorem piece2 {M N m n a b : ℕ} {e : EltTy} (G : Vec Ideal ⟨2, ![M, N]⟩ e)
    (h : ∀ i : Fin 2, (![a, b] : Fin 2 → ℕ) i + (![m, n] : Fin 2 → ℕ) i ≤ (⟨2, ![M, N]⟩ : Shape).size i)
    (p : Vec Ideal ⟨2, ![m, n]⟩ e)
    (hp : ∀ (i : Fin m) (j : Fin n) (i' : Fin M) (j' : Fin N), i'.val = a + i.val → j'.val = b + j.val →
      p (ix2 i j) = G (ix2 i' j')) :
    ∀ x : (Rect.unit (s := ⟨2, ![M, N]⟩) ![a, b] ![m, n] h).shape.Idx,
      p x = G ((Rect.unit (s := ⟨2, ![M, N]⟩) ![a, b] ![m, n] h).emb x) := by
  intro x
  have e1 : (x : (⟨2, ![m, n]⟩ : Shape).Idx) = ix2 (x 0) (x 1) := by
    funext k; fin_cases k <;> rfl
  have e2 : (Rect.unit (s := ⟨2, ![M, N]⟩) ![a, b] ![m, n] h).emb x
      = ix2 ((Rect.unit (s := ⟨2, ![M, N]⟩) ![a, b] ![m, n] h).emb x 0)
        ((Rect.unit (s := ⟨2, ![M, N]⟩) ![a, b] ![m, n] h).emb x 1) := by
    funext k; fin_cases k <;> rfl
  rw [e2]
  refine (congrArg p e1).trans (hp _ _ _ _ ?_ ?_)
  · simp [Rect.emb_apply]
  · simp [Rect.emb_apply]

/-- `Row.w` of every row of a block. -/
def Blk.out_w (b : Blk) : Vec Ideal S256x1536 .i8 := fun y => (b.row (y 0)).w (y 1)

/-- `Row.delta` of every row of a block. -/
def Blk.out_delta (b : Blk) : Vec Ideal S256x1536 .f32 := fun y => (b.row (y 0)).delta (y 1)

/-- `Row.n` of every row of a block. -/
def Blk.out_n (b : Blk) : Vec Ideal S256x256 .f32 := fun y => (b.row (y 0)).n (y 1)

/-- `Row.mC` of every row of a block. -/
def Blk.out_mC (b : Blk) : Vec Ideal S256x256 .i8 := fun y => (b.row (y 0)).mC (y 1)

/-- `Row.mS` of every row of a block, groups along the first axis. -/
def Blk.out_mS (b : Blk) : Vec Ideal S2x256 .f32 := fun y => (b.row (y 1)).mS (y 0)

/-- `Row.vC` of every row of a block. -/
def Blk.out_vC (b : Blk) : Vec Ideal S256x256 .i8 := fun y => (b.row (y 0)).vC (y 1)

/-- `Row.vS` of every row of a block, groups along the first axis. -/
def Blk.out_vS (b : Blk) : Vec Ideal S2x256 .f32 := fun y => (b.row (y 1)).vS (y 0)

/-- Output 11's block: `Row.w` of the block's rows. -/
theorem out_B_11 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : ¬cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) (xs0 : Vec Ideal S1536x1536 .bf16) (xs1 : Vec Ideal S256x1536 .bf16) :
    out0_B_11 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1
      = Blk.out_w ⟨xs0, x1, xs1, x4, x5, x6, x7, x8, x9, x10⟩ := by
  unfold out0_B_11
  rw [View.read_writes_junk_eq_canon]
  funext y
  refine View.canon_apply_of_pieces (Val := Elt Ideal) (Blk.out_w ⟨xs0, x1, xs1, x4, x5, x6, x7, x8, x9, x10⟩) _ ?_ y
    (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1 y)
  unfold kernelRun0_B
  dsimp only
  sl_unfold_words
  simp only [View.readAt_eq_ld, h1.read_unread,h2.read_unread,h3.read_unread,h4.read_unread,h5.read_unread,h6.read_unread,h7.read_unread,h8.read_unread,h9.read_unread,h10.read_unread,h11.read_unread,h19.read_unread,h20.read_unread]
  simp only [View.ld_unit_zero (S := S1536x1536) hz2, View.ld_unit_zero (S := S1536x256) hz2, View.ld_unit_zero (S := S256x1536) hz2,
    List.forall_mem_cons, List.not_mem_nil, false_imp_iff, implies_true, and_true]
  refine ⟨?_, ?_, ?_, ?_, ?_, ?_⟩
  · refine piece2 (Blk.out_w ⟨xs0, x1, xs1, x4, x5, x6, x7, x8, x9, x10⟩) _ _ fun i j i' j' hi hj => ?_
    obtain rfl : i' = i := by omega
    refine (Blk.w5_at ⟨xs0, x1, xs1, x4, x5, x6, x7, x8, x9, x10⟩ _ _).trans (congrArg (Blk.row ⟨xs0, x1, xs1, x4, x5, x6, x7, x8, x9, x10⟩ i').w (Fin.ext ?_))
    change _ = j'.val
    rw [hj]

  · refine piece2 (Blk.out_w ⟨xs0, x1, xs1, x4, x5, x6, x7, x8, x9, x10⟩) _ _ fun i j i' j' hi hj => ?_
    obtain rfl : i' = i := by omega
    refine (Blk.w4_at ⟨xs0, x1, xs1, x4, x5, x6, x7, x8, x9, x10⟩ _ _).trans (congrArg (Blk.row ⟨xs0, x1, xs1, x4, x5, x6, x7, x8, x9, x10⟩ i').w (Fin.ext ?_))
    change _ = j'.val
    rw [hj]

  · refine piece2 (Blk.out_w ⟨xs0, x1, xs1, x4, x5, x6, x7, x8, x9, x10⟩) _ _ fun i j i' j' hi hj => ?_
    obtain rfl : i' = i := by omega
    refine (Blk.w3_at ⟨xs0, x1, xs1, x4, x5, x6, x7, x8, x9, x10⟩ _ _).trans (congrArg (Blk.row ⟨xs0, x1, xs1, x4, x5, x6, x7, x8, x9, x10⟩ i').w (Fin.ext ?_))
    change _ = j'.val
    rw [hj]

  · refine piece2 (Blk.out_w ⟨xs0, x1, xs1, x4, x5, x6, x7, x8, x9, x10⟩) _ _ fun i j i' j' hi hj => ?_
    obtain rfl : i' = i := by omega
    refine (Blk.w2_at ⟨xs0, x1, xs1, x4, x5, x6, x7, x8, x9, x10⟩ _ _).trans (congrArg (Blk.row ⟨xs0, x1, xs1, x4, x5, x6, x7, x8, x9, x10⟩ i').w (Fin.ext ?_))
    change _ = j'.val
    rw [hj]

  · refine piece2 (Blk.out_w ⟨xs0, x1, xs1, x4, x5, x6, x7, x8, x9, x10⟩) _ _ fun i j i' j' hi hj => ?_
    obtain rfl : i' = i := by omega
    refine (Blk.w1_at ⟨xs0, x1, xs1, x4, x5, x6, x7, x8, x9, x10⟩ _ _).trans (congrArg (Blk.row ⟨xs0, x1, xs1, x4, x5, x6, x7, x8, x9, x10⟩ i').w (Fin.ext ?_))
    change _ = j'.val
    rw [hj]

  · refine piece2 (Blk.out_w ⟨xs0, x1, xs1, x4, x5, x6, x7, x8, x9, x10⟩) _ _ fun i j i' j' hi hj => ?_
    obtain rfl : i' = i := by omega
    refine (Blk.w0_at ⟨xs0, x1, xs1, x4, x5, x6, x7, x8, x9, x10⟩ _ _).trans (congrArg (Blk.row ⟨xs0, x1, xs1, x4, x5, x6, x7, x8, x9, x10⟩ i').w (Fin.ext ?_))
    change _ = j'.val
    rw [hj]
    simp [lane]

/-- Output 12's block: `Row.delta` of the block's rows. -/
theorem out_B_12 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : ¬cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) (xs0 : Vec Ideal S1536x1536 .bf16) (xs1 : Vec Ideal S256x1536 .bf16) :
    out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1
      = Blk.out_delta ⟨xs0, x1, xs1, x4, x5, x6, x7, x8, x9, x10⟩ := by
  unfold out0_B_12
  rw [View.read_writes_junk_eq_canon]
  funext y
  refine View.canon_apply_of_pieces (Val := Elt Ideal) (Blk.out_delta ⟨xs0, x1, xs1, x4, x5, x6, x7, x8, x9, x10⟩) _ ?_ y
    (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1 y)
  unfold kernelRun0_B
  dsimp only
  sl_unfold_words
  simp only [View.readAt_eq_ld, h1.read_unread,h2.read_unread,h3.read_unread,h4.read_unread,h5.read_unread,h6.read_unread,h7.read_unread,h8.read_unread,h9.read_unread,h10.read_unread,h11.read_unread,h19.read_unread,h20.read_unread]
  simp only [View.ld_unit_zero (S := S1536x1536) hz2, View.ld_unit_zero (S := S1536x256) hz2, View.ld_unit_zero (S := S256x1536) hz2,
    List.forall_mem_cons, List.not_mem_nil, false_imp_iff, implies_true, and_true]
  refine ⟨?_, ?_, ?_, ?_, ?_, ?_⟩
  · refine piece2 (Blk.out_delta ⟨xs0, x1, xs1, x4, x5, x6, x7, x8, x9, x10⟩) _ _ fun i j i' j' hi hj => ?_
    obtain rfl : i' = i := by omega
    refine (Blk.d5_at ⟨xs0, x1, xs1, x4, x5, x6, x7, x8, x9, x10⟩ _ _).trans (congrArg (Blk.row ⟨xs0, x1, xs1, x4, x5, x6, x7, x8, x9, x10⟩ i').delta (Fin.ext ?_))
    change _ = j'.val
    rw [hj]

  · refine piece2 (Blk.out_delta ⟨xs0, x1, xs1, x4, x5, x6, x7, x8, x9, x10⟩) _ _ fun i j i' j' hi hj => ?_
    obtain rfl : i' = i := by omega
    refine (Blk.d4_at ⟨xs0, x1, xs1, x4, x5, x6, x7, x8, x9, x10⟩ _ _).trans (congrArg (Blk.row ⟨xs0, x1, xs1, x4, x5, x6, x7, x8, x9, x10⟩ i').delta (Fin.ext ?_))
    change _ = j'.val
    rw [hj]

  · refine piece2 (Blk.out_delta ⟨xs0, x1, xs1, x4, x5, x6, x7, x8, x9, x10⟩) _ _ fun i j i' j' hi hj => ?_
    obtain rfl : i' = i := by omega
    refine (Blk.d3_at ⟨xs0, x1, xs1, x4, x5, x6, x7, x8, x9, x10⟩ _ _).trans (congrArg (Blk.row ⟨xs0, x1, xs1, x4, x5, x6, x7, x8, x9, x10⟩ i').delta (Fin.ext ?_))
    change _ = j'.val
    rw [hj]

  · refine piece2 (Blk.out_delta ⟨xs0, x1, xs1, x4, x5, x6, x7, x8, x9, x10⟩) _ _ fun i j i' j' hi hj => ?_
    obtain rfl : i' = i := by omega
    refine (Blk.d2_at ⟨xs0, x1, xs1, x4, x5, x6, x7, x8, x9, x10⟩ _ _).trans (congrArg (Blk.row ⟨xs0, x1, xs1, x4, x5, x6, x7, x8, x9, x10⟩ i').delta (Fin.ext ?_))
    change _ = j'.val
    rw [hj]

  · refine piece2 (Blk.out_delta ⟨xs0, x1, xs1, x4, x5, x6, x7, x8, x9, x10⟩) _ _ fun i j i' j' hi hj => ?_
    obtain rfl : i' = i := by omega
    refine (Blk.d1_at ⟨xs0, x1, xs1, x4, x5, x6, x7, x8, x9, x10⟩ _ _).trans (congrArg (Blk.row ⟨xs0, x1, xs1, x4, x5, x6, x7, x8, x9, x10⟩ i').delta (Fin.ext ?_))
    change _ = j'.val
    rw [hj]

  · refine piece2 (Blk.out_delta ⟨xs0, x1, xs1, x4, x5, x6, x7, x8, x9, x10⟩) _ _ fun i j i' j' hi hj => ?_
    obtain rfl : i' = i := by omega
    refine (Blk.d0_at ⟨xs0, x1, xs1, x4, x5, x6, x7, x8, x9, x10⟩ _ _).trans (congrArg (Blk.row ⟨xs0, x1, xs1, x4, x5, x6, x7, x8, x9, x10⟩ i').delta (Fin.ext ?_))
    change _ = j'.val
    rw [hj]
    simp [lane]

/-- Output 13's block: `Row.n` of the block's rows. -/
theorem out_B_13 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : ¬cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) (xs0 : Vec Ideal S1536x1536 .bf16) (xs1 : Vec Ideal S256x1536 .bf16) :
    out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1
      = Blk.out_n ⟨xs0, x1, xs1, x4, x5, x6, x7, x8, x9, x10⟩ := by
  unfold out0_B_13
  rw [View.read_writes_junk_eq_canon]
  funext y
  refine View.canon_apply_of_pieces (Val := Elt Ideal) (Blk.out_n ⟨xs0, x1, xs1, x4, x5, x6, x7, x8, x9, x10⟩) _ ?_ y
    (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1 y)
  unfold kernelRun0_B
  dsimp only
  sl_unfold_words
  simp only [View.readAt_eq_ld, h1.read_unread,h2.read_unread,h3.read_unread,h4.read_unread,h5.read_unread,h6.read_unread,h7.read_unread,h8.read_unread,h9.read_unread,h10.read_unread,h11.read_unread,h19.read_unread,h20.read_unread]
  simp only [View.ld_unit_zero (S := S1536x1536) hz2, View.ld_unit_zero (S := S1536x256) hz2, View.ld_unit_zero (S := S256x1536) hz2,
    List.forall_mem_cons, List.not_mem_nil, false_imp_iff, implies_true, and_true]
  refine ⟨?_, ?_⟩
  · refine piece2 (Blk.out_n ⟨xs0, x1, xs1, x4, x5, x6, x7, x8, x9, x10⟩) _ _ fun i j i' j' hi hj => ?_
    obtain rfl : i' = i := by omega
    refine (Blk.n1_at ⟨xs0, x1, xs1, x4, x5, x6, x7, x8, x9, x10⟩ _ _).trans (congrArg (Blk.row ⟨xs0, x1, xs1, x4, x5, x6, x7, x8, x9, x10⟩ i').n (Fin.ext ?_))
    change _ = j'.val
    rw [hj]
    simp [lane]
  · refine piece2 (Blk.out_n ⟨xs0, x1, xs1, x4, x5, x6, x7, x8, x9, x10⟩) _ _ fun i j i' j' hi hj => ?_
    obtain rfl : i' = i := by omega
    refine (Blk.n0_at ⟨xs0, x1, xs1, x4, x5, x6, x7, x8, x9, x10⟩ _ _).trans (congrArg (Blk.row ⟨xs0, x1, xs1, x4, x5, x6, x7, x8, x9, x10⟩ i').n (Fin.ext ?_))
    change _ = j'.val
    rw [hj]
    simp [lane]

/-- Output 14's block: `Row.mC` of the block's rows. -/
theorem out_B_14 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : ¬cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) (xs0 : Vec Ideal S1536x1536 .bf16) (xs1 : Vec Ideal S256x1536 .bf16) :
    out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1
      = Blk.out_mC ⟨xs0, x1, xs1, x4, x5, x6, x7, x8, x9, x10⟩ := by
  unfold out0_B_14
  rw [View.read_writes_junk_eq_canon]
  funext y
  refine View.canon_apply_of_pieces (Val := Elt Ideal) (Blk.out_mC ⟨xs0, x1, xs1, x4, x5, x6, x7, x8, x9, x10⟩) _ ?_ y
    (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1 y)
  unfold kernelRun0_B
  dsimp only
  sl_unfold_words
  simp only [View.readAt_eq_ld, h1.read_unread,h2.read_unread,h3.read_unread,h4.read_unread,h5.read_unread,h6.read_unread,h7.read_unread,h8.read_unread,h9.read_unread,h10.read_unread,h11.read_unread,h19.read_unread,h20.read_unread]
  simp only [View.ld_unit_zero (S := S1536x1536) hz2, View.ld_unit_zero (S := S1536x256) hz2, View.ld_unit_zero (S := S256x1536) hz2,
    List.forall_mem_cons, List.not_mem_nil, false_imp_iff, implies_true, and_true]
  refine ⟨?_, ?_⟩
  · refine piece2 (Blk.out_mC ⟨xs0, x1, xs1, x4, x5, x6, x7, x8, x9, x10⟩) _ _ fun i j i' j' hi hj => ?_
    obtain rfl : i' = i := by omega
    refine (Blk.mC1_at ⟨xs0, x1, xs1, x4, x5, x6, x7, x8, x9, x10⟩ _ _).trans (congrArg (Blk.row ⟨xs0, x1, xs1, x4, x5, x6, x7, x8, x9, x10⟩ i').mC (Fin.ext ?_))
    change _ = j'.val
    rw [hj]
    simp [lane]
  · refine piece2 (Blk.out_mC ⟨xs0, x1, xs1, x4, x5, x6, x7, x8, x9, x10⟩) _ _ fun i j i' j' hi hj => ?_
    obtain rfl : i' = i := by omega
    refine (Blk.mC0_at ⟨xs0, x1, xs1, x4, x5, x6, x7, x8, x9, x10⟩ _ _).trans (congrArg (Blk.row ⟨xs0, x1, xs1, x4, x5, x6, x7, x8, x9, x10⟩ i').mC (Fin.ext ?_))
    change _ = j'.val
    rw [hj]
    simp [lane]

/-- Output 15's block: `Row.mS` of the block's rows, groups along the first axis. -/
theorem out_B_15 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : ¬cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) (xs0 : Vec Ideal S1536x1536 .bf16) (xs1 : Vec Ideal S256x1536 .bf16) :
    out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1
      = Blk.out_mS ⟨xs0, x1, xs1, x4, x5, x6, x7, x8, x9, x10⟩ := by
  unfold out0_B_15
  rw [View.read_writes_junk_eq_canon]
  funext y
  refine View.canon_apply_of_pieces (Val := Elt Ideal) (Blk.out_mS ⟨xs0, x1, xs1, x4, x5, x6, x7, x8, x9, x10⟩) _ ?_ y
    (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1 y)
  unfold kernelRun0_B
  dsimp only
  sl_unfold_words
  simp only [View.readAt_eq_ld, h1.read_unread,h2.read_unread,h3.read_unread,h4.read_unread,h5.read_unread,h6.read_unread,h7.read_unread,h8.read_unread,h9.read_unread,h10.read_unread,h11.read_unread,h19.read_unread,h20.read_unread]
  simp only [View.ld_unit_zero (S := S1536x1536) hz2, View.ld_unit_zero (S := S1536x256) hz2, View.ld_unit_zero (S := S256x1536) hz2,
    List.forall_mem_cons, List.not_mem_nil, false_imp_iff, implies_true, and_true]
  refine piece2 (Blk.out_mS ⟨xs0, x1, xs1, x4, x5, x6, x7, x8, x9, x10⟩) _ _ fun g l g' l' hg hl => ?_
  obtain rfl : g' = g := by omega
  obtain rfl : l' = l := by omega
  exact Blk.mS_at ⟨xs0, x1, xs1, x4, x5, x6, x7, x8, x9, x10⟩ _ _

/-- Output 16's block: `Row.vC` of the block's rows. -/
theorem out_B_16 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : ¬cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) (xs0 : Vec Ideal S1536x1536 .bf16) (xs1 : Vec Ideal S256x1536 .bf16) :
    out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1
      = Blk.out_vC ⟨xs0, x1, xs1, x4, x5, x6, x7, x8, x9, x10⟩ := by
  unfold out0_B_16
  rw [View.read_writes_junk_eq_canon]
  funext y
  refine View.canon_apply_of_pieces (Val := Elt Ideal) (Blk.out_vC ⟨xs0, x1, xs1, x4, x5, x6, x7, x8, x9, x10⟩) _ ?_ y
    (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1 y)
  unfold kernelRun0_B
  dsimp only
  sl_unfold_words
  simp only [View.readAt_eq_ld, h1.read_unread,h2.read_unread,h3.read_unread,h4.read_unread,h5.read_unread,h6.read_unread,h7.read_unread,h8.read_unread,h9.read_unread,h10.read_unread,h11.read_unread,h19.read_unread,h20.read_unread]
  simp only [View.ld_unit_zero (S := S1536x1536) hz2, View.ld_unit_zero (S := S1536x256) hz2, View.ld_unit_zero (S := S256x1536) hz2,
    List.forall_mem_cons, List.not_mem_nil, false_imp_iff, implies_true, and_true]
  refine ⟨?_, ?_⟩
  · refine piece2 (Blk.out_vC ⟨xs0, x1, xs1, x4, x5, x6, x7, x8, x9, x10⟩) _ _ fun i j i' j' hi hj => ?_
    obtain rfl : i' = i := by omega
    refine (Blk.vC1_at ⟨xs0, x1, xs1, x4, x5, x6, x7, x8, x9, x10⟩ _ _).trans (congrArg (Blk.row ⟨xs0, x1, xs1, x4, x5, x6, x7, x8, x9, x10⟩ i').vC (Fin.ext ?_))
    change _ = j'.val
    rw [hj]
    simp [lane]
  · refine piece2 (Blk.out_vC ⟨xs0, x1, xs1, x4, x5, x6, x7, x8, x9, x10⟩) _ _ fun i j i' j' hi hj => ?_
    obtain rfl : i' = i := by omega
    refine (Blk.vC0_at ⟨xs0, x1, xs1, x4, x5, x6, x7, x8, x9, x10⟩ _ _).trans (congrArg (Blk.row ⟨xs0, x1, xs1, x4, x5, x6, x7, x8, x9, x10⟩ i').vC (Fin.ext ?_))
    change _ = j'.val
    rw [hj]
    simp [lane]

/-- Output 17's block: `Row.vS` of the block's rows, groups along the first axis. -/
theorem out_B_17 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : ¬cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) (xs0 : Vec Ideal S1536x1536 .bf16) (xs1 : Vec Ideal S256x1536 .bf16) :
    out0_B_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1
      = Blk.out_vS ⟨xs0, x1, xs1, x4, x5, x6, x7, x8, x9, x10⟩ := by
  unfold out0_B_17
  rw [View.read_writes_junk_eq_canon]
  funext y
  refine View.canon_apply_of_pieces (Val := Elt Ideal) (Blk.out_vS ⟨xs0, x1, xs1, x4, x5, x6, x7, x8, x9, x10⟩) _ ?_ y
    (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 xs0 xs1 y)
  unfold kernelRun0_B
  dsimp only
  sl_unfold_words
  simp only [View.readAt_eq_ld, h1.read_unread,h2.read_unread,h3.read_unread,h4.read_unread,h5.read_unread,h6.read_unread,h7.read_unread,h8.read_unread,h9.read_unread,h10.read_unread,h11.read_unread,h19.read_unread,h20.read_unread]
  simp only [View.ld_unit_zero (S := S1536x1536) hz2, View.ld_unit_zero (S := S1536x256) hz2, View.ld_unit_zero (S := S256x1536) hz2,
    List.forall_mem_cons, List.not_mem_nil, false_imp_iff, implies_true, and_true]
  refine piece2 (Blk.out_vS ⟨xs0, x1, xs1, x4, x5, x6, x7, x8, x9, x10⟩) _ _ fun g l g' l' hg hl => ?_
  obtain rfl : g' = g := by omega
  obtain rfl : l' = l := by omega
  exact Blk.vS_at ⟨xs0, x1, xs1, x4, x5, x6, x7, x8, x9, x10⟩ _ _

end Cert.KernelIdeal.Block
end
-- ==== Proof.Fill.lean ====
module

public import proofs.«01_k».proof.Proof.Outs

@[expose] public section

set_option maxRecDepth 16384

noncomputable section

open Idealize.ShloMosaic Idealize.ShloMosaic.TcCoe Idealize.SL.Sem
open Idealize.ShloMosaic.Pipeline (Dat)

/-!
# What the first grid point leaves in the two scratch buffers

The transposed activations and the decoded projector; and, the outputs reading both back at once, what the first
grid point leaves in every output block.
-/
namespace Cert.KernelIdeal.Block
open Cert.KernelIdeal Cert.KernelIdeal.Gen Cert.Galore

/-- A byte shifted up and down by 28 places in a 32-bit word is its low half, with its sign. -/
theorem nibLo_word (c : BitVec 8) :
    (IntOp.shrsi .vector (IntOp.shli .vector (BitVec.setWidth 32 c) 28#32) 28#32).toInt = nibLo c := by
  have h : ∀ c : Fin 256, (IntOp.shrsi .vector (IntOp.shli .vector (BitVec.setWidth 32 (BitVec.ofFin (w := 8) c)) 28#32)
      28#32).toInt = nibLo (BitVec.ofFin (w := 8) c) := by decide +kernel
  exact h c.toFin

/-- A byte shifted up by 24 places and down by 28 in a 32-bit word is its high half, with its sign. -/
theorem nibHi_word (c : BitVec 8) :
    (IntOp.shrsi .vector (IntOp.shli .vector (BitVec.setWidth 32 c) 24#32) 28#32).toInt = nibHi c := by
  have h : ∀ c : Fin 256, (IntOp.shrsi .vector (IntOp.shli .vector (BitVec.setWidth 32 (BitVec.ofFin (w := 8) c)) 24#32)
      28#32).toInt = nibHi (BitVec.ofFin (w := 8) c) := by decide +kernel
  exact h c.toFin

/-- Column `l` of chunk `k` of the decoded projector, in the words of the body. -/
theorem decode_chunk (c : Fin 768 → BitVec 8) (s : Fin 6 → EReal) (k : Fin 6) (l : ℕ) (d : Fin 1536) (q : Fin 768)
    (hl : l < 256) (hd : d.val = 256 * k.val + l) (hq : q.val = 128 * k.val + l / 2) :
    (if l % 2 = 0 then
      FloatOps.sitofp (F := Ideal) .f32 (IntOp.shrsi .vector (IntOp.shli .vector (BitVec.setWidth 32 (c q)) 28#32) 28#32) * s k
    else
      FloatOps.sitofp (F := Ideal) .f32 (IntOp.shrsi .vector (IntOp.shli .vector (BitVec.setWidth 32 (c q)) 24#32) 28#32) * s k)
      = decode c s d := by
  have e1 : (⟨d.val / 2, by omega⟩ : Fin 768) = q := Fin.ext (by simp only []; omega)
  have e2 : (⟨d.val / 256, by omega⟩ : Fin 6) = k := Fin.ext (by simp only []; omega)
  have e3 : d.val % 2 = l % 2 := by omega
  unfold decode
  rw [e1, e2, e3]
  by_cases h : l % 2 = 0
  · rw [if_pos h, if_pos h, ← nibLo_word]; rfl
  · rw [if_neg h, if_neg h, ← nibHi_word]; rfl

/-- The decoded projector, from its codes and its scales. -/
def proj (x2 : Vec Ideal S256x768 .i8) (x3 : Vec Ideal S6x256 .f32) : Vec Ideal S256x1536 .bf16 :=
  fun y => decode (fun j => x2 (ix2 (y 0) j)) (fun g => x3 (ix2 g (y 0))) (y 1)

/-- The activations with their axes exchanged. -/
def xT (x0 : Vec Ideal S1536x1536 .bf16) : Vec Ideal S1536x1536 .bf16 := fun y => x0 (ix2 (y 1) (y 0))

/-- Columns 0 to 255 of the projector, as the first grid point decodes them. -/
theorem p0_at (x2 : Vec Ideal S256x768 .i8) (x3 : Vec Ideal S6x256 .f32) (i l : Fin 256) (d : Fin 1536)
    (hd : d.val = 0 + l.val) :
    k0_pay2 (F := Ideal) (View.ld x2 (Rect.unit ![0, 0] ![256, 128] inb_S256x768_S256x128_0_0)) (View.ld x3 (Rect.unit ![0, 0] ![1, 256] inb_S6x256_S1x256_0_0)) (ix2 i l) = proj x2 x3 (ix2 i d) := by
  pointwise [k0_pay2]
  exact decode_chunk (fun j => x2 (ix2 i j)) (fun g => x3 (ix2 g i)) 0 l.val d _ l.isLt (by simp; omega) (by simp)

/-- Columns 256 to 511 of the projector, as the first grid point decodes them. -/
theorem p1_at (x2 : Vec Ideal S256x768 .i8) (x3 : Vec Ideal S6x256 .f32) (i l : Fin 256) (d : Fin 1536)
    (hd : d.val = 256 + l.val) :
    k0_pay6 (F := Ideal) (k0_pay4 (F := Ideal) (View.ld x2 (Rect.unit ![0, 128] ![256, 128] inb_S256x768_S256x128_0_128))) (k0_pay5 (F := Ideal) (View.ld x2 (Rect.unit ![0, 128] ![256, 128] inb_S256x768_S256x128_0_128))) (View.ld x3 (Rect.unit ![1, 0] ![1, 256] inb_S6x256_S1x256_1_0)) (ix2 i l) = proj x2 x3 (ix2 i d) := by
  pointwise [k0_pay6, k0_pay4, k0_pay5, k0_pay3]
  exact decode_chunk (fun j => x2 (ix2 i j)) (fun g => x3 (ix2 g i)) 1 l.val d _ l.isLt (by simp; omega) (by simp)

/-- Columns 512 to 767 of the projector, as the first grid point decodes them. -/
theorem p2_at (x2 : Vec Ideal S256x768 .i8) (x3 : Vec Ideal S6x256 .f32) (i l : Fin 256) (d : Fin 1536)
    (hd : d.val = 512 + l.val) :
    k0_pay7 (F := Ideal) (View.ld x2 (Rect.unit ![0, 256] ![256, 128] inb_S256x768_S256x128_0_256)) (View.ld x3 (Rect.unit ![2, 0] ![1, 256] inb_S6x256_S1x256_2_0)) (ix2 i l) = proj x2 x3 (ix2 i d) := by
  pointwise [k0_pay7]
  exact decode_chunk (fun j => x2 (ix2 i j)) (fun g => x3 (ix2 g i)) 2 l.val d _ l.isLt (by simp; omega) (by simp)

/-- Columns 768 to 1023 of the projector, as the first grid point decodes them. -/
theorem p3_at (x2 : Vec Ideal S256x768 .i8) (x3 : Vec Ideal S6x256 .f32) (i l : Fin 256) (d : Fin 1536)
    (hd : d.val = 768 + l.val) :
    k0_pay8 (F := Ideal) (View.ld x2 (Rect.unit ![0, 384] ![256, 128] inb_S256x768_S256x128_0_384)) (View.ld x3 (Rect.unit ![3, 0] ![1, 256] inb_S6x256_S1x256_3_0)) (ix2 i l) = proj x2 x3 (ix2 i d) := by
  pointwise [k0_pay8]
  exact decode_chunk (fun j => x2 (ix2 i j)) (fun g => x3 (ix2 g i)) 3 l.val d _ l.isLt (by simp; omega) (by simp)

/-- Columns 1024 to 1279 of the projector, as the first grid point decodes them. -/
theorem p4_at (x2 : Vec Ideal S256x768 .i8) (x3 : Vec Ideal S6x256 .f32) (i l : Fin 256) (d : Fin 1536)
    (hd : d.val = 1024 + l.val) :
    k0_pay13 (F := Ideal) (k0_pay10 (F := Ideal) (View.ld x2 (Rect.unit ![0, 512] ![256, 128] inb_S256x768_S256x128_0_512))) (k0_pay11 (F := Ideal) (View.ld x2 (Rect.unit ![0, 512] ![256, 128] inb_S256x768_S256x128_0_512))) (k0_pay12 (F := Ideal) (View.ld x3 (Rect.unit ![4, 0] ![1, 256] inb_S6x256_S1x256_4_0))) (ix2 i l) = proj x2 x3 (ix2 i d) := by
  pointwise [k0_pay13, k0_pay10, k0_pay11, k0_pay12, k0_pay9]
  exact decode_chunk (fun j => x2 (ix2 i j)) (fun g => x3 (ix2 g i)) 4 l.val d _ l.isLt (by simp; omega) (by simp)

/-- Columns 1280 to 1535 of the projector, as the first grid point decodes them. -/
theorem p5_at (x2 : Vec Ideal S256x768 .i8) (x3 : Vec Ideal S6x256 .f32) (i l : Fin 256) (d : Fin 1536)
    (hd : d.val = 1280 + l.val) :
    k0_pay14 (F := Ideal) (View.ld x2 (Rect.unit ![0, 640] ![256, 128] inb_S256x768_S256x128_0_640)) (View.ld x3 (Rect.unit ![5, 0] ![1, 256] inb_S6x256_S1x256_5_0)) (ix2 i l) = proj x2 x3 (ix2 i d) := by
  pointwise [k0_pay14]
  exact decode_chunk (fun j => x2 (ix2 i j)) (fun g => x3 (ix2 g i)) 5 l.val d _ l.isLt (by simp; omega) (by simp)

/-- The first grid point leaves the transposed activations in scratch buffer 0. -/
theorem scratch_A_0 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    sout0_A_0 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 = xT x0 := by
  unfold sout0_A_0
  rw [View.read_writes_junk_eq_canon]
  funext y
  refine View.canon_apply_of_pieces (Val := Elt Ideal) (xT x0) _ ?_ y
    (scover0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 y)
  unfold kernelRun0_A
  dsimp only
  sl_unfold_words
  simp only [View.readAt_eq_ld, h1.read_unread,h2.read_unread,h3.read_unread,h4.read_unread,h5.read_unread,h6.read_unread,h7.read_unread,h8.read_unread,h9.read_unread,h10.read_unread,h11.read_unread]
  simp only [List.forall_mem_cons, List.not_mem_nil, false_imp_iff, implies_true, and_true]
  refine ⟨?_, ?_, ?_, ?_, ?_, ?_⟩
  · refine piece2 (xT x0) _ _ fun i j i' j' hi hj => ?_
    obtain rfl : i' = i := by omega
    pointwise [xT]
    exact congrArg x0 (congrArg (fun t => ix2 t i') (Fin.ext hj.symm))
  · refine piece2 (xT x0) _ _ fun i j i' j' hi hj => ?_
    obtain rfl : i' = i := by omega
    pointwise [xT]
    exact congrArg x0 (congrArg (fun t => ix2 t i') (Fin.ext hj.symm))
  · refine piece2 (xT x0) _ _ fun i j i' j' hi hj => ?_
    obtain rfl : i' = i := by omega
    pointwise [xT]
    exact congrArg x0 (congrArg (fun t => ix2 t i') (Fin.ext hj.symm))
  · refine piece2 (xT x0) _ _ fun i j i' j' hi hj => ?_
    obtain rfl : i' = i := by omega
    pointwise [xT]
    exact congrArg x0 (congrArg (fun t => ix2 t i') (Fin.ext hj.symm))
  · refine piece2 (xT x0) _ _ fun i j i' j' hi hj => ?_
    obtain rfl : i' = i := by omega
    pointwise [xT]
    exact congrArg x0 (congrArg (fun t => ix2 t i') (Fin.ext hj.symm))
  · refine piece2 (xT x0) _ _ fun i j i' j' hi hj => ?_
    obtain rfl : i' = i := by omega
    pointwise [k0_pay15, xT]
    exact congrArg x0 (congrArg (fun t => ix2 t i') (Fin.ext (show j.val = j'.val by omega)))

/-- The first grid point leaves the decoded projector in scratch buffer 1. -/
theorem scratch_A_1 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    sout0_A_1 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 = proj x2 x3 := by
  unfold sout0_A_1
  rw [View.read_writes_junk_eq_canon]
  funext y
  refine View.canon_apply_of_pieces (Val := Elt Ideal) (proj x2 x3) _ ?_ y
    (scover0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10 y)
  unfold kernelRun0_A
  dsimp only
  sl_unfold_words
  simp only [View.readAt_eq_ld, h1.read_unread,h2.read_unread,h3.read_unread,h4.read_unread,h5.read_unread,h6.read_unread,h7.read_unread,h8.read_unread,h9.read_unread,h10.read_unread,h11.read_unread]
  simp only [List.forall_mem_cons, List.not_mem_nil, false_imp_iff, implies_true, and_true]
  refine ⟨?_, ?_, ?_, ?_, ?_, ?_⟩
  · refine piece2 (proj x2 x3) _ _ fun i j i' j' hi hj => ?_
    obtain rfl : i' = i := by omega
    exact p5_at x2 x3 _ _ _ hj
  · refine piece2 (proj x2 x3) _ _ fun i j i' j' hi hj => ?_
    obtain rfl : i' = i := by omega
    exact p4_at x2 x3 _ _ _ hj
  · refine piece2 (proj x2 x3) _ _ fun i j i' j' hi hj => ?_
    obtain rfl : i' = i := by omega
    exact p3_at x2 x3 _ _ _ hj
  · refine piece2 (proj x2 x3) _ _ fun i j i' j' hi hj => ?_
    obtain rfl : i' = i := by omega
    exact p2_at x2 x3 _ _ _ hj
  · refine piece2 (proj x2 x3) _ _ fun i j i' j' hi hj => ?_
    obtain rfl : i' = i := by omega
    exact p1_at x2 x3 _ _ _ hj
  · refine piece2 (proj x2 x3) _ _ fun i j i' j' hi hj => ?_
    obtain rfl : i' = i := by omega
    exact p0_at x2 x3 _ _ _ hj

/-- A load of a buffer just written reads the last writes. -/
theorem readCov_ld {sig : RefSig} {κ : Kind} {sp : Space} {s : Shape} {e : EltTy} (v : View sig κ sp s e)
    (L : List (View.Piece (Elt Ideal) s e)) (r : Rect s) :
    v.readCov L r.toLoadRect = View.ld (View.canon L) r :=
  View.readCov_eq_canon' v L r.toLoadRect

/-- Some grid point is not the first. -/
theorem not_first : ∃ i : grid0.Coords, ¬cond0_0 i :=
  ⟨grid0.coords ⟨1, by decide⟩, fun h => absurd ((hcond0_0 ⟨1, by decide⟩).mp h) (by decide)⟩

/-- At the first grid point, output 11 is what it would be with the scratch buffers already filled. -/
theorem out_A_11 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    out0_A_11 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10
      = Blk.out_w ⟨xT x0, x1, proj x2 x3, x4, x5, x6, x7, x8, x9, x10⟩ := by
  obtain ⟨i', hc1⟩ := not_first
  refine Eq.trans ?_ (out_B_11 c i' a1 h1 a2 h2 a3 h3 a4 h4 a5 h5 a6 h6 a7 h7 a8 h8 a9 h9 a10 h10 a11 h11 a12 h12 a13 h13 a14 h14 a15 h15 a16 h16 a17 h17 a18 h18 a19 h19 a20 h20 hc1 x0 x1 x2 x3 x4 x5 x6 x7 x8 x9 x10 _ _)
  rw [← scratch_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10, ← scratch_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10]
  unfold out0_A_11 out0_B_11 sout0_A_0 sout0_A_1
  simp only [View.read_writes_junk_eq_canon]
  unfold kernelRun0_A kernelRun0_B
  dsimp only
  sl_unfold_words
  simp only [View.readAt_eq_ld, readCov_ld, View.read_writes_junk_eq_canon, h1.read_unread,h2.read_unread,h3.read_unread,h4.read_unread,h5.read_unread,h6.read_unread,h7.read_unread,h8.read_unread,h9.read_unread,h10.read_unread,h11.read_unread,h19.read_unread,h20.read_unread]

/-- At the first grid point, output 12 is what it would be with the scratch buffers already filled. -/
theorem out_A_12 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10
      = Blk.out_delta ⟨xT x0, x1, proj x2 x3, x4, x5, x6, x7, x8, x9, x10⟩ := by
  obtain ⟨i', hc1⟩ := not_first
  refine Eq.trans ?_ (out_B_12 c i' a1 h1 a2 h2 a3 h3 a4 h4 a5 h5 a6 h6 a7 h7 a8 h8 a9 h9 a10 h10 a11 h11 a12 h12 a13 h13 a14 h14 a15 h15 a16 h16 a17 h17 a18 h18 a19 h19 a20 h20 hc1 x0 x1 x2 x3 x4 x5 x6 x7 x8 x9 x10 _ _)
  rw [← scratch_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10, ← scratch_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10]
  unfold out0_A_12 out0_B_12 sout0_A_0 sout0_A_1
  simp only [View.read_writes_junk_eq_canon]
  unfold kernelRun0_A kernelRun0_B
  dsimp only
  sl_unfold_words
  simp only [View.readAt_eq_ld, readCov_ld, View.read_writes_junk_eq_canon, h1.read_unread,h2.read_unread,h3.read_unread,h4.read_unread,h5.read_unread,h6.read_unread,h7.read_unread,h8.read_unread,h9.read_unread,h10.read_unread,h11.read_unread,h19.read_unread,h20.read_unread]

/-- At the first grid point, output 13 is what it would be with the scratch buffers already filled. -/
theorem out_A_13 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10
      = Blk.out_n ⟨xT x0, x1, proj x2 x3, x4, x5, x6, x7, x8, x9, x10⟩ := by
  obtain ⟨i', hc1⟩ := not_first
  refine Eq.trans ?_ (out_B_13 c i' a1 h1 a2 h2 a3 h3 a4 h4 a5 h5 a6 h6 a7 h7 a8 h8 a9 h9 a10 h10 a11 h11 a12 h12 a13 h13 a14 h14 a15 h15 a16 h16 a17 h17 a18 h18 a19 h19 a20 h20 hc1 x0 x1 x2 x3 x4 x5 x6 x7 x8 x9 x10 _ _)
  rw [← scratch_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10, ← scratch_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10]
  unfold out0_A_13 out0_B_13 sout0_A_0 sout0_A_1
  simp only [View.read_writes_junk_eq_canon]
  unfold kernelRun0_A kernelRun0_B
  dsimp only
  sl_unfold_words
  simp only [View.readAt_eq_ld, readCov_ld, View.read_writes_junk_eq_canon, h1.read_unread,h2.read_unread,h3.read_unread,h4.read_unread,h5.read_unread,h6.read_unread,h7.read_unread,h8.read_unread,h9.read_unread,h10.read_unread,h11.read_unread,h19.read_unread,h20.read_unread]

/-- At the first grid point, output 14 is what it would be with the scratch buffers already filled. -/
theorem out_A_14 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10
      = Blk.out_mC ⟨xT x0, x1, proj x2 x3, x4, x5, x6, x7, x8, x9, x10⟩ := by
  obtain ⟨i', hc1⟩ := not_first
  refine Eq.trans ?_ (out_B_14 c i' a1 h1 a2 h2 a3 h3 a4 h4 a5 h5 a6 h6 a7 h7 a8 h8 a9 h9 a10 h10 a11 h11 a12 h12 a13 h13 a14 h14 a15 h15 a16 h16 a17 h17 a18 h18 a19 h19 a20 h20 hc1 x0 x1 x2 x3 x4 x5 x6 x7 x8 x9 x10 _ _)
  rw [← scratch_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10, ← scratch_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10]
  unfold out0_A_14 out0_B_14 sout0_A_0 sout0_A_1
  simp only [View.read_writes_junk_eq_canon]
  unfold kernelRun0_A kernelRun0_B
  dsimp only
  sl_unfold_words
  simp only [View.readAt_eq_ld, readCov_ld, View.read_writes_junk_eq_canon, h1.read_unread,h2.read_unread,h3.read_unread,h4.read_unread,h5.read_unread,h6.read_unread,h7.read_unread,h8.read_unread,h9.read_unread,h10.read_unread,h11.read_unread,h19.read_unread,h20.read_unread]

/-- At the first grid point, output 15 is what it would be with the scratch buffers already filled. -/
theorem out_A_15 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10
      = Blk.out_mS ⟨xT x0, x1, proj x2 x3, x4, x5, x6, x7, x8, x9, x10⟩ := by
  obtain ⟨i', hc1⟩ := not_first
  refine Eq.trans ?_ (out_B_15 c i' a1 h1 a2 h2 a3 h3 a4 h4 a5 h5 a6 h6 a7 h7 a8 h8 a9 h9 a10 h10 a11 h11 a12 h12 a13 h13 a14 h14 a15 h15 a16 h16 a17 h17 a18 h18 a19 h19 a20 h20 hc1 x0 x1 x2 x3 x4 x5 x6 x7 x8 x9 x10 _ _)
  rw [← scratch_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10, ← scratch_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10]
  unfold out0_A_15 out0_B_15 sout0_A_0 sout0_A_1
  simp only [View.read_writes_junk_eq_canon]
  unfold kernelRun0_A kernelRun0_B
  dsimp only
  sl_unfold_words
  simp only [View.readAt_eq_ld, readCov_ld, View.read_writes_junk_eq_canon, h1.read_unread,h2.read_unread,h3.read_unread,h4.read_unread,h5.read_unread,h6.read_unread,h7.read_unread,h8.read_unread,h9.read_unread,h10.read_unread,h11.read_unread,h19.read_unread,h20.read_unread]

/-- At the first grid point, output 16 is what it would be with the scratch buffers already filled. -/
theorem out_A_16 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10
      = Blk.out_vC ⟨xT x0, x1, proj x2 x3, x4, x5, x6, x7, x8, x9, x10⟩ := by
  obtain ⟨i', hc1⟩ := not_first
  refine Eq.trans ?_ (out_B_16 c i' a1 h1 a2 h2 a3 h3 a4 h4 a5 h5 a6 h6 a7 h7 a8 h8 a9 h9 a10 h10 a11 h11 a12 h12 a13 h13 a14 h14 a15 h15 a16 h16 a17 h17 a18 h18 a19 h19 a20 h20 hc1 x0 x1 x2 x3 x4 x5 x6 x7 x8 x9 x10 _ _)
  rw [← scratch_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10, ← scratch_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10]
  unfold out0_A_16 out0_B_16 sout0_A_0 sout0_A_1
  simp only [View.read_writes_junk_eq_canon]
  unfold kernelRun0_A kernelRun0_B
  dsimp only
  sl_unfold_words
  simp only [View.readAt_eq_ld, readCov_ld, View.read_writes_junk_eq_canon, h1.read_unread,h2.read_unread,h3.read_unread,h4.read_unread,h5.read_unread,h6.read_unread,h7.read_unread,h8.read_unread,h9.read_unread,h10.read_unread,h11.read_unread,h19.read_unread,h20.read_unread]

/-- At the first grid point, output 17 is what it would be with the scratch buffers already filled. -/
theorem out_A_17 (c : Dev nD) (i : grid0.Coords) (a1 : Memref sig .tc .vmem S1536x1536 .bf16) (h1 : a1.IsWhole) (a2 : Memref sig .tc .vmem S1536x256 .bf16) (h2 : a2.IsWhole) (a3 : Memref sig .tc .vmem S256x768 .i8) (h3 : a3.IsWhole) (a4 : Memref sig .tc .vmem S6x256 .f32) (h4 : a4.IsWhole) (a5 : Memref sig .tc .vmem S256x256 .i8) (h5 : a5.IsWhole) (a6 : Memref sig .tc .vmem S2x256 .f32) (h6 : a6.IsWhole) (a7 : Memref sig .tc .vmem S256x256 .i8) (h7 : a7.IsWhole) (a8 : Memref sig .tc .vmem S2x256 .f32) (h8 : a8.IsWhole) (a9 : Memref sig .tc .vmem S256x1536 .i8) (h9 : a9.IsWhole) (a10 : Memref sig .tc .vmem S1x256 .f32) (h10 : a10.IsWhole) (a11 : Memref sig .tc .vmem S256x1536 .i8) (h11 : a11.IsWhole) (a12 : Memref sig .tc .vmem S256x1536 .i8) (h12 : a12.IsWhole) (a13 : Memref sig .tc .vmem S256x1536 .f32) (h13 : a13.IsWhole) (a14 : Memref sig .tc .vmem S256x256 .f32) (h14 : a14.IsWhole) (a15 : Memref sig .tc .vmem S256x256 .i8) (h15 : a15.IsWhole) (a16 : Memref sig .tc .vmem S2x256 .f32) (h16 : a16.IsWhole) (a17 : Memref sig .tc .vmem S256x256 .i8) (h17 : a17.IsWhole) (a18 : Memref sig .tc .vmem S2x256 .f32) (h18 : a18.IsWhole) (a19 : Memref sig .tc .vmem S1536x1536 .bf16) (h19 : a19.IsWhole) (a20 : Memref sig .tc .vmem S256x1536 .bf16) (h20 : a20.IsWhole) (hc0 : cond0_0 i) (x0 : Vec Ideal S1536x1536 .bf16) (x1 : Vec Ideal S1536x256 .bf16) (x2 : Vec Ideal S256x768 .i8) (x3 : Vec Ideal S6x256 .f32) (x4 : Vec Ideal S256x256 .i8) (x5 : Vec Ideal S2x256 .f32) (x6 : Vec Ideal S256x256 .i8) (x7 : Vec Ideal S2x256 .f32) (x8 : Vec Ideal S256x1536 .i8) (x9 : Vec Ideal S1x256 .f32) (x10 : Vec Ideal S256x1536 .i8) :
    out0_A_17 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10
      = Blk.out_vS ⟨xT x0, x1, proj x2 x3, x4, x5, x6, x7, x8, x9, x10⟩ := by
  obtain ⟨i', hc1⟩ := not_first
  refine Eq.trans ?_ (out_B_17 c i' a1 h1 a2 h2 a3 h3 a4 h4 a5 h5 a6 h6 a7 h7 a8 h8 a9 h9 a10 h10 a11 h11 a12 h12 a13 h13 a14 h14 a15 h15 a16 h16 a17 h17 a18 h18 a19 h19 a20 h20 hc1 x0 x1 x2 x3 x4 x5 x6 x7 x8 x9 x10 _ _)
  rw [← scratch_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10, ← scratch_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 x0 x1 x2 x3 x4 x5 x6 x7 x8 x9 x10]
  unfold out0_A_17 out0_B_17 sout0_A_0 sout0_A_1
  simp only [View.read_writes_junk_eq_canon]
  unfold kernelRun0_A kernelRun0_B
  dsimp only
  sl_unfold_words
  simp only [View.readAt_eq_ld, readCov_ld, View.read_writes_junk_eq_canon, h1.read_unread,h2.read_unread,h3.read_unread,h4.read_unread,h5.read_unread,h6.read_unread,h7.read_unread,h8.read_unread,h9.read_unread,h10.read_unread,h11.read_unread,h19.read_unread,h20.read_unread]

end Cert.KernelIdeal.Block
end
-- ==== Proof.Points.lean ====
module

public import proofs.«01_k».proof.Proof.Fill

@[expose] public section

set_option maxRecDepth 16384

noncomputable section

open Idealize.ShloMosaic Idealize.ShloMosaic.TcCoe Idealize.SL.Sem
open Idealize.ShloMosaic.Pipeline (Dat)

/-!
# What every grid point leaves in every output block

The scratch buffers keep what the first grid point put there, so each point computes the rows of its own blocks:
row `i` of point `t`'s blocks is row `256 t + i` of the operand arrays.
-/
namespace Cert.KernelIdeal.Block
open Cert.KernelIdeal Cert.KernelIdeal.Gen Cert.Galore
variable (m : (ℓ : Loc nD τ sig) → Buf (Elt Ideal) ℓ) (c : Dev nD)

/-- Operand 0 as the kernel finds it. -/
abbrev op0 : Vec Ideal S1536x1536 .bf16 := V m c main_v0

/-- Operand 1 as the kernel finds it. -/
abbrev op1 : Vec Ideal S1536x8960 .bf16 := V m c main_v1

/-- Operand 2 as the kernel finds it. -/
abbrev op2 : Vec Ideal S256x768 .i8 := V m c main_arg2

/-- Operand 3 as the kernel finds it. -/
abbrev op3 : Vec Ideal S6x256 .f32 := V m c main_v2

/-- Operand 4 as the kernel finds it. -/
abbrev op4 : Vec Ideal S8960x256 .i8 := V m c main_arg4

/-- Operand 5 as the kernel finds it. -/
abbrev op5 : Vec Ideal S2x8960 .f32 := V m c main_v3

/-- Operand 6 as the kernel finds it. -/
abbrev op6 : Vec Ideal S8960x256 .i8 := V m c main_arg6

/-- Operand 7 as the kernel finds it. -/
abbrev op7 : Vec Ideal S2x8960 .f32 := V m c main_v4

/-- Operand 8 as the kernel finds it. -/
abbrev op8 : Vec Ideal S8960x1536 .i8 := V m c main_arg8

/-- Operand 9 as the kernel finds it. -/
abbrev op9 : Vec Ideal S1x8960 .f32 := V m c main_v5

/-- Operand 10 as the kernel finds it. -/
abbrev op10 : Vec Ideal S8960x1536 .i8 := V m c main_arg10

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 2) = 0 ∧ win0_1.index t (1 : Fin 2) = t.val :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = 0 ∧ win0_5.index t (1 : Fin 2) = t.val :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

theorem idx7 : ∀ t : Fin cfg0.N, win0_7.index t (0 : Fin 2) = 0 ∧ win0_7.index t (1 : Fin 2) = t.val :=
  (by decide +kernel : ∀ t : Fin grid0.N, _)

theorem idx8 : ∀ t : Fin cfg0.N, win0_8.index t (0 : Fin 2) = t.val ∧ win0_8.index t (1 : Fin 2) = 0 :=
  (by decide +kernel : ∀ t : Fin grid0.N, _)

theorem idx9 : ∀ t : Fin cfg0.N, win0_9.index t (0 : Fin 2) = 0 ∧ win0_9.index t (1 : Fin 2) = t.val :=
  (by decide +kernel : ∀ t : Fin grid0.N, _)

theorem idx10 : ∀ t : Fin cfg0.N, win0_10.index t (0 : Fin 2) = t.val ∧ win0_10.index t (1 : Fin 2) = 0 :=
  (by decide +kernel : ∀ t : Fin grid0.N, _)

/-- Block 0 is the whole operand at every point. -/
theorem blk0 (t : Fin cfg0.N) : (iblk m c 0 t : Vec Ideal S1536x1536 .bf16) = op0 m c := by
  obtain ⟨e0, e1⟩ := idx0 t
  funext y
  show op0 m c (((cfg0.win 0).blk t).view.emb y) = op0 m c y
  refine congrArg (op0 m c) (funext fun a => Fin.ext ?_)
  match a with
  | ⟨0, _⟩ => show win0_0.index t (0 : Fin 2) * 1536 + 1 * (y 0).val = (y 0).val; omega
  | ⟨1, _⟩ => show win0_0.index t (1 : Fin 2) * 1536 + 1 * (y 1).val = (y 1).val; omega

/-- Block 1 at an index. -/
theorem blk1 (t : Fin cfg0.N) (p : Fin 1536) (q : Fin 256) (p' : Fin 1536) (q' : Fin 8960) (hp : p'.val = p.val)
    (hq : q'.val = 256 * t.val + q.val) : (iblk m c 1 t : Vec Ideal S1536x256 .bf16) (ix2 p q) = op1 m c (ix2 p' q') := by
  obtain ⟨e0, e1⟩ := idx1 t
  show op1 m c (((cfg0.win 1).blk t).view.emb (ix2 p q)) = op1 m c (ix2 p' q')
  refine congrArg (op1 m c) (funext fun a => Fin.ext ?_)
  match a with
  | ⟨0, _⟩ => show win0_1.index t (0 : Fin 2) * 1536 + 1 * p.val = p'.val; omega
  | ⟨1, _⟩ => show win0_1.index t (1 : Fin 2) * 256 + 1 * q.val = q'.val; omega

/-- Block 2 is the whole operand at every point. -/
theorem blk2 (t : Fin cfg0.N) : (iblk m c 2 t : Vec Ideal S256x768 .i8) = op2 m c := by
  obtain ⟨e0, e1⟩ := idx2 t
  funext y
  show op2 m c (((cfg0.win 2).blk t).view.emb y) = op2 m c y
  refine congrArg (op2 m c) (funext fun a => Fin.ext ?_)
  match a with
  | ⟨0, _⟩ => show win0_2.index t (0 : Fin 2) * 256 + 1 * (y 0).val = (y 0).val; omega
  | ⟨1, _⟩ => show win0_2.index t (1 : Fin 2) * 768 + 1 * (y 1).val = (y 1).val; omega

/-- Block 3 is the whole operand at every point. -/
theorem blk3 (t : Fin cfg0.N) : (iblk m c 3 t : Vec Ideal S6x256 .f32) = op3 m c := by
  obtain ⟨e0, e1⟩ := idx3 t
  funext y
  show op3 m c (((cfg0.win 3).blk t).view.emb y) = op3 m c y
  refine congrArg (op3 m c) (funext fun a => Fin.ext ?_)
  match a with
  | ⟨0, _⟩ => show win0_3.index t (0 : Fin 2) * 6 + 1 * (y 0).val = (y 0).val; omega
  | ⟨1, _⟩ => show win0_3.index t (1 : Fin 2) * 256 + 1 * (y 1).val = (y 1).val; omega

/-- Block 4 at an index. -/
theorem blk4 (t : Fin cfg0.N) (p : Fin 256) (q : Fin 256) (p' : Fin 8960) (q' : Fin 256) (hp : p'.val = 256 * t.val + p.val)
    (hq : q'.val = q.val) : (iblk m c 4 t : Vec Ideal S256x256 .i8) (ix2 p q) = op4 m c (ix2 p' q') := by
  obtain ⟨e0, e1⟩ := idx4 t
  show op4 m c (((cfg0.win 4).blk t).view.emb (ix2 p q)) = op4 m c (ix2 p' q')
  refine congrArg (op4 m c) (funext fun a => Fin.ext ?_)
  match a with
  | ⟨0, _⟩ => show win0_4.index t (0 : Fin 2) * 256 + 1 * p.val = p'.val; omega
  | ⟨1, _⟩ => show win0_4.index t (1 : Fin 2) * 256 + 1 * q.val = q'.val; omega

/-- Block 5 at an index. -/
theorem blk5 (t : Fin cfg0.N) (p : Fin 2) (q : Fin 256) (p' : Fin 2) (q' : Fin 8960) (hp : p'.val = p.val)
    (hq : q'.val = 256 * t.val + q.val) : (iblk m c 5 t : Vec Ideal S2x256 .f32) (ix2 p q) = op5 m c (ix2 p' q') := by
  obtain ⟨e0, e1⟩ := idx5 t
  show op5 m c (((cfg0.win 5).blk t).view.emb (ix2 p q)) = op5 m c (ix2 p' q')
  refine congrArg (op5 m c) (funext fun a => Fin.ext ?_)
  match a with
  | ⟨0, _⟩ => show win0_5.index t (0 : Fin 2) * 2 + 1 * p.val = p'.val; omega
  | ⟨1, _⟩ => show win0_5.index t (1 : Fin 2) * 256 + 1 * q.val = q'.val; omega

/-- Block 6 at an index. -/
theorem blk6 (t : Fin cfg0.N) (p : Fin 256) (q : Fin 256) (p' : Fin 8960) (q' : Fin 256) (hp : p'.val = 256 * t.val + p.val)
    (hq : q'.val = q.val) : (iblk m c 6 t : Vec Ideal S256x256 .i8) (ix2 p q) = op6 m c (ix2 p' q') := by
  obtain ⟨e0, e1⟩ := idx6 t
  show op6 m c (((cfg0.win 6).blk t).view.emb (ix2 p q)) = op6 m c (ix2 p' q')
  refine congrArg (op6 m c) (funext fun a => Fin.ext ?_)
  match a with
  | ⟨0, _⟩ => show win0_6.index t (0 : Fin 2) * 256 + 1 * p.val = p'.val; omega
  | ⟨1, _⟩ => show win0_6.index t (1 : Fin 2) * 256 + 1 * q.val = q'.val; omega

/-- Block 7 at an index. -/
theorem blk7 (t : Fin cfg0.N) (p : Fin 2) (q : Fin 256) (p' : Fin 2) (q' : Fin 8960) (hp : p'.val = p.val)
    (hq : q'.val = 256 * t.val + q.val) : (iblk m c 7 t : Vec Ideal S2x256 .f32) (ix2 p q) = op7 m c (ix2 p' q') := by
  obtain ⟨e0, e1⟩ := idx7 t
  show op7 m c (((cfg0.win 7).blk t).view.emb (ix2 p q)) = op7 m c (ix2 p' q')
  refine congrArg (op7 m c) (funext fun a => Fin.ext ?_)
  match a with
  | ⟨0, _⟩ => show win0_7.index t (0 : Fin 2) * 2 + 1 * p.val = p'.val; omega
  | ⟨1, _⟩ => show win0_7.index t (1 : Fin 2) * 256 + 1 * q.val = q'.val; omega

/-- Block 8 at an index. -/
theorem blk8 (t : Fin cfg0.N) (p : Fin 256) (q : Fin 1536) (p' : Fin 8960) (q' : Fin 1536) (hp : p'.val = 256 * t.val + p.val)
    (hq : q'.val = q.val) : (iblk m c 8 t : Vec Ideal S256x1536 .i8) (ix2 p q) = op8 m c (ix2 p' q') := by
  obtain ⟨e0, e1⟩ := idx8 t
  show op8 m c (((cfg0.win 8).blk t).view.emb (ix2 p q)) = op8 m c (ix2 p' q')
  refine congrArg (op8 m c) (funext fun a => Fin.ext ?_)
  match a with
  | ⟨0, _⟩ => show win0_8.index t (0 : Fin 2) * 256 + 1 * p.val = p'.val; omega
  | ⟨1, _⟩ => show win0_8.index t (1 : Fin 2) * 1536 + 1 * q.val = q'.val; omega

/-- Block 9 at an index. -/
theorem blk9 (t : Fin cfg0.N) (p : Fin 1) (q : Fin 256) (p' : Fin 1) (q' : Fin 8960) (hp : p'.val = p.val)
    (hq : q'.val = 256 * t.val + q.val) : (iblk m c 9 t : Vec Ideal S1x256 .f32) (ix2 p q) = op9 m c (ix2 p' q') := by
  obtain ⟨e0, e1⟩ := idx9 t
  show op9 m c (((cfg0.win 9).blk t).view.emb (ix2 p q)) = op9 m c (ix2 p' q')
  refine congrArg (op9 m c) (funext fun a => Fin.ext ?_)
  match a with
  | ⟨0, _⟩ => show win0_9.index t (0 : Fin 2) * 1 + 1 * p.val = p'.val; omega
  | ⟨1, _⟩ => show win0_9.index t (1 : Fin 2) * 256 + 1 * q.val = q'.val; omega

/-- Block 10 at an index. -/
theorem blk10 (t : Fin cfg0.N) (p : Fin 256) (q : Fin 1536) (p' : Fin 8960) (q' : Fin 1536) (hp : p'.val = 256 * t.val + p.val)
    (hq : q'.val = q.val) : (iblk m c 10 t : Vec Ideal S256x1536 .i8) (ix2 p q) = op10 m c (ix2 p' q') := by
  obtain ⟨e0, e1⟩ := idx10 t
  show op10 m c (((cfg0.win 10).blk t).view.emb (ix2 p q)) = op10 m c (ix2 p' q')
  refine congrArg (op10 m c) (funext fun a => Fin.ext ?_)
  match a with
  | ⟨0, _⟩ => show win0_10.index t (0 : Fin 2) * 256 + 1 * p.val = p'.val; omega
  | ⟨1, _⟩ => show win0_10.index t (1 : Fin 2) * 1536 + 1 * q.val = q'.val; omega

/-- What the body reads at point `t`. -/
def blkAt (t : Fin cfg0.N) : Blk where
  XT := xT (op0 m c)
  x1 := iblk m c 1 t
  P := proj (op2 m c) (op3 m c)
  x4 := iblk m c 4 t
  x5 := iblk m c 5 t
  x6 := iblk m c 6 t
  x7 := iblk m c 7 t
  x8 := iblk m c 8 t
  x9 := iblk m c 9 t
  x10 := iblk m c 10 t

/-- Row `o` of the kernel's operands. -/
def kRow (o : Fin 8960) : Row where
  X d t := op0 m c (ix2 t d)
  D t := op1 m c (ix2 t o)
  P k d := decode (fun j => op2 m c (ix2 k j)) (fun g => op3 m c (ix2 g k)) d
  mc j := op4 m c (ix2 o j)
  ms g := op5 m c (ix2 g o)
  vc j := op6 m c (ix2 o j)
  vs g := op7 m c (ix2 g o)
  wc d := op8 m c (ix2 o d)
  ws := op9 m c (ix2 0 o)
  sr d := op10 m c (ix2 o d)

/-- Row `i` of point `t`'s blocks is row `256 t + i` of the operands. -/
theorem row_blkAt (t : Fin cfg0.N) (i : Fin 256) (o : Fin 8960) (ho : o.val = 256 * t.val + i.val) :
    (blkAt m c t).row i = kRow m c o := by
  unfold Blk.row kRow blkAt
  simp only [Row.mk.injEq]
  refine ⟨rfl, ?_, rfl, ?_, ?_, ?_, ?_, ?_, ?_, ?_⟩
  · funext k; exact blk1 m c t _ _ _ _ rfl ho
  · funext k; exact blk4 m c t _ _ _ _ ho rfl
  · funext k; exact blk5 m c t _ _ _ _ rfl ho
  · funext k; exact blk6 m c t _ _ _ _ ho rfl
  · funext k; exact blk7 m c t _ _ _ _ rfl ho
  · funext k; exact blk8 m c t _ _ _ _ ho rfl
  · exact blk9 m c t _ _ _ _ rfl ho
  · funext k; exact blk10 m c t _ _ _ _ ho rfl

/-- After every point the scratch buffers hold the transposed activations and the decoded projector. -/
theorem scratch_at : ∀ (n : ℕ) (hn : n < cfg0.N),
    (outsAt0 m c n hn).2.2.2.2.2.2.2.1 = xT (op0 m c) ∧ (outsAt0 m c n hn).2.2.2.2.2.2.2.2 = proj (op2 m c) (op3 m c) := by
  intro n
  induction n with
  | zero =>
    intro hn
    rw [outsAt0_A m c ⟨0, hn⟩ rfl]
    dsimp only
    rw [scratch_A_0, scratch_A_1, blk0, blk2, blk3]
    exact ⟨rfl, rfl⟩
  | succ n ih =>
    intro hn
    have hN : n + 1 < 35 := lt_of_lt_of_eq hn N_0
    rw [outsAt0_B m c ⟨n + 1, hn⟩ (by simp only []; omega)]
    dsimp only
    exact ih _

/-- What point `t` leaves in output 11's block. -/
theorem point_11 (t : Fin cfg0.N) : (outsAt0 m c t.val t.isLt).1 = (blkAt m c t).out_w := by
  by_cases h0 : t.val % 35 = 0
  · rw [outsAt0_A m c t h0]
    dsimp only
    rw [out_A_11, blk0, blk2, blk3]
    rfl
  · rw [outsAt0_B m c t h0]
    dsimp only
    rw [out_B_11, (scratch_at m c _ _).1, (scratch_at m c _ _).2]
    rfl

/-- What point `t` leaves in output 12's block. -/
theorem point_12 (t : Fin cfg0.N) : (outsAt0 m c t.val t.isLt).2.1 = (blkAt m c t).out_delta := by
  by_cases h0 : t.val % 35 = 0
  · rw [outsAt0_A m c t h0]
    dsimp only
    rw [out_A_12, blk0, blk2, blk3]
    rfl
  · rw [outsAt0_B m c t h0]
    dsimp only
    rw [out_B_12, (scratch_at m c _ _).1, (scratch_at m c _ _).2]
    rfl

/-- What point `t` leaves in output 13's block. -/
theorem point_13 (t : Fin cfg0.N) : (outsAt0 m c t.val t.isLt).2.2.1 = (blkAt m c t).out_n := by
  by_cases h0 : t.val % 35 = 0
  · rw [outsAt0_A m c t h0]
    dsimp only
    rw [out_A_13, blk0, blk2, blk3]
    rfl
  · rw [outsAt0_B m c t h0]
    dsimp only
    rw [out_B_13, (scratch_at m c _ _).1, (scratch_at m c _ _).2]
    rfl

/-- What point `t` leaves in output 14's block. -/
theorem point_14 (t : Fin cfg0.N) : (outsAt0 m c t.val t.isLt).2.2.2.1 = (blkAt m c t).out_mC := by
  by_cases h0 : t.val % 35 = 0
  · rw [outsAt0_A m c t h0]
    dsimp only
    rw [out_A_14, blk0, blk2, blk3]
    rfl
  · rw [outsAt0_B m c t h0]
    dsimp only
    rw [out_B_14, (scratch_at m c _ _).1, (scratch_at m c _ _).2]
    rfl

/-- What point `t` leaves in output 15's block. -/
theorem point_15 (t : Fin cfg0.N) : (outsAt0 m c t.val t.isLt).2.2.2.2.1 = (blkAt m c t).out_mS := by
  by_cases h0 : t.val % 35 = 0
  · rw [outsAt0_A m c t h0]
    dsimp only
    rw [out_A_15, blk0, blk2, blk3]
    rfl
  · rw [outsAt0_B m c t h0]
    dsimp only
    rw [out_B_15, (scratch_at m c _ _).1, (scratch_at m c _ _).2]
    rfl

/-- What point `t` leaves in output 16's block. -/
theorem point_16 (t : Fin cfg0.N) : (outsAt0 m c t.val t.isLt).2.2.2.2.2.1 = (blkAt m c t).out_vC := by
  by_cases h0 : t.val % 35 = 0
  · rw [outsAt0_A m c t h0]
    dsimp only
    rw [out_A_16, blk0, blk2, blk3]
    rfl
  · rw [outsAt0_B m c t h0]
    dsimp only
    rw [out_B_16, (scratch_at m c _ _).1, (scratch_at m c _ _).2]
    rfl

/-- What point `t` leaves in output 17's block. -/
theorem point_17 (t : Fin cfg0.N) : (outsAt0 m c t.val t.isLt).2.2.2.2.2.2.1 = (blkAt m c t).out_vS := by
  by_cases h0 : t.val % 35 = 0
  · rw [outsAt0_A m c t h0]
    dsimp only
    rw [out_A_17, blk0, blk2, blk3]
    rfl
  · rw [outsAt0_B m c t h0]
    dsimp only
    rw [out_B_17, (scratch_at m c _ _).1, (scratch_at m c _ _).2]
    rfl

end Cert.KernelIdeal.Block
end
-- ==== Proof.Arrays.lean ====
module

public import proofs.«01_k».proof.Proof.Points

@[expose] public section

set_option maxRecDepth 16384

noncomputable section

open Idealize.ShloMosaic Idealize.ShloMosaic.TcCoe Idealize.SL.Sem
open Idealize.ShloMosaic.Pipeline (Dat)

/-!
# What every output array ends holding

The blocks written back tile each output array, so the array is the formula of `Row` at every row.
-/
namespace Cert.KernelIdeal.Block
open Cert.KernelIdeal Cert.KernelIdeal.Gen Cert.Galore
variable (m : (ℓ : Loc nD τ sig) → Buf (Elt Ideal) ℓ) (c : Dev nD)

/-! ## Output 11: `Row.w` -/

/-- `Row.w` of every row of the operands. -/
def arr11 : Vec Ideal S8960x1536 .i8 := fun i => (kRow m c (i 0)).w (i 1)

theorem idx11 : ∀ t : Fin cfg0.N, win0_11.index t (0 : Fin 2) = t.val ∧ win0_11.index t (1 : Fin 2) = 0 :=
  (by decide +kernel : ∀ t : Fin grid0.N, _)

theorem flush11 : ∀ t : Fin cfg0.N, (cfg0.win 11).flush t = true :=
  (by decide +kernel : ∀ t : Fin grid0.N, win0_11.flush t = true)

/-- What point `t` writes back is its block of `arr11`. -/
theorem flushed11 (t : Fin cfg0.N) :
    (dats m 0 c).flushed 11 t = ((cfg0.win 11).blk t).view.read (Elt Ideal) (arr11 m c) := by
  show (cfg0.win 11).cut (grid0.coords t) ((dats m 0 c).after 11 t) = _
  rw [after0_11, point_11]
  obtain ⟨e0, e1⟩ := idx11 t
  funext y
  have hy0 : (y 0).val < 256 := (y 0).isLt
  have hy1 : (y 1).val < 1536 := (y 1).isLt
  have hb0 : (((cfg0.win 11).blk t).view.emb y 0).val = win0_11.index t (0 : Fin 2) * 256 + 1 * (y 0).val := rfl
  have hb1 : (((cfg0.win 11).blk t).view.emb y 1).val = win0_11.index t (1 : Fin 2) * 1536 + 1 * (y 1).val := rfl
  show ((blkAt m c t).row ⟨(y 0).val, hy0⟩).w ⟨(y 1).val, hy1⟩
    = (kRow m c (((cfg0.win 11).blk t).view.emb y 0)).w (((cfg0.win 11).blk t).view.emb y 1)
  rw [row_blkAt m c t ⟨(y 0).val, hy0⟩ (((cfg0.win 11).blk t).view.emb y 0) (by rw [hb0]; simp only []; omega)]
  refine congrArg (kRow m c _).w (Fin.ext ?_)
  rw [hb1]
  simp only []
  omega

/-- An index of the array is in point `t`'s block iff each coordinate is in the block's range on its axis. -/
theorem mem_blk11 (t : Fin cfg0.N) (i : S8960x1536.Idx) :
    i ∈ ((cfg0.win 11).blk t).view.set ↔ ∀ a : Fin 2, win0_11.index t a * S256x1536.size a ≤ (i a).val
      ∧ (i a).val < win0_11.index t a * S256x1536.size a + S256x1536.size a := by
  show i ∈ ((View.whole main_v6_0).slice (win0_11.rect t)).set ↔ _
  rw [View.set_slice_whole, Rect.mem_set_unit]
  exact Iff.rfl

/-- The array after the run. -/
theorem final11 : (dats m 0 c).arrAt 11 cfg0.N = arr11 m c := by
  refine (dats m 0 c).arrAt_eq_of_cover 11 _ (fun t _ => flushed11 m c t) fun i => ?_
  have h0 : (i 0).val < 8960 := (i 0).isLt
  have h1 : (i 1).val < 1536 := (i 1).isLt
  refine ⟨⟨(i 0).val / 256, lt_of_lt_of_eq (by omega) N_0.symm⟩, flush11 _, ?_⟩
  obtain ⟨e0, e1⟩ := idx11 ⟨(i 0).val / 256, lt_of_lt_of_eq (by omega) N_0.symm⟩
  rw [mem_blk11]
  intro a
  match a with
  | ⟨0, _⟩ =>
    show win0_11.index _ (0 : Fin 2) * 256 ≤ (i 0).val ∧ (i 0).val < win0_11.index _ (0 : Fin 2) * 256 + 256
    rw [e0]; simp only []; omega
  | ⟨1, _⟩ =>
    show win0_11.index _ (1 : Fin 2) * 1536 ≤ (i 1).val ∧ (i 1).val < win0_11.index _ (1 : Fin 2) * 1536 + 1536
    rw [e1]; omega

/-! ## Output 12: `Row.delta` -/

/-- `Row.delta` of every row of the operands. -/
def arr12 : Vec Ideal S8960x1536 .f32 := fun i => (kRow m c (i 0)).delta (i 1)

theorem idx12 : ∀ t : Fin cfg0.N, win0_12.index t (0 : Fin 2) = t.val ∧ win0_12.index t (1 : Fin 2) = 0 :=
  (by decide +kernel : ∀ t : Fin grid0.N, _)

theorem flush12 : ∀ t : Fin cfg0.N, (cfg0.win 12).flush t = true :=
  (by decide +kernel : ∀ t : Fin grid0.N, win0_12.flush t = true)

/-- What point `t` writes back is its block of `arr12`. -/
theorem flushed12 (t : Fin cfg0.N) :
    (dats m 0 c).flushed 12 t = ((cfg0.win 12).blk t).view.read (Elt Ideal) (arr12 m c) := by
  show (cfg0.win 12).cut (grid0.coords t) ((dats m 0 c).after 12 t) = _
  rw [after0_12, point_12]
  obtain ⟨e0, e1⟩ := idx12 t
  funext y
  have hy0 : (y 0).val < 256 := (y 0).isLt
  have hy1 : (y 1).val < 1536 := (y 1).isLt
  have hb0 : (((cfg0.win 12).blk t).view.emb y 0).val = win0_12.index t (0 : Fin 2) * 256 + 1 * (y 0).val := rfl
  have hb1 : (((cfg0.win 12).blk t).view.emb y 1).val = win0_12.index t (1 : Fin 2) * 1536 + 1 * (y 1).val := rfl
  show ((blkAt m c t).row ⟨(y 0).val, hy0⟩).delta ⟨(y 1).val, hy1⟩
    = (kRow m c (((cfg0.win 12).blk t).view.emb y 0)).delta (((cfg0.win 12).blk t).view.emb y 1)
  rw [row_blkAt m c t ⟨(y 0).val, hy0⟩ (((cfg0.win 12).blk t).view.emb y 0) (by rw [hb0]; simp only []; omega)]
  refine congrArg (kRow m c _).delta (Fin.ext ?_)
  rw [hb1]
  simp only []
  omega

/-- An index of the array is in point `t`'s block iff each coordinate is in the block's range on its axis. -/
theorem mem_blk12 (t : Fin cfg0.N) (i : S8960x1536.Idx) :
    i ∈ ((cfg0.win 12).blk t).view.set ↔ ∀ a : Fin 2, win0_12.index t a * S256x1536.size a ≤ (i a).val
      ∧ (i a).val < win0_12.index t a * S256x1536.size a + S256x1536.size a := by
  show i ∈ ((View.whole main_v6_1).slice (win0_12.rect t)).set ↔ _
  rw [View.set_slice_whole, Rect.mem_set_unit]
  exact Iff.rfl

/-- The array after the run. -/
theorem final12 : (dats m 0 c).arrAt 12 cfg0.N = arr12 m c := by
  refine (dats m 0 c).arrAt_eq_of_cover 12 _ (fun t _ => flushed12 m c t) fun i => ?_
  have h0 : (i 0).val < 8960 := (i 0).isLt
  have h1 : (i 1).val < 1536 := (i 1).isLt
  refine ⟨⟨(i 0).val / 256, lt_of_lt_of_eq (by omega) N_0.symm⟩, flush12 _, ?_⟩
  obtain ⟨e0, e1⟩ := idx12 ⟨(i 0).val / 256, lt_of_lt_of_eq (by omega) N_0.symm⟩
  rw [mem_blk12]
  intro a
  match a with
  | ⟨0, _⟩ =>
    show win0_12.index _ (0 : Fin 2) * 256 ≤ (i 0).val ∧ (i 0).val < win0_12.index _ (0 : Fin 2) * 256 + 256
    rw [e0]; simp only []; omega
  | ⟨1, _⟩ =>
    show win0_12.index _ (1 : Fin 2) * 1536 ≤ (i 1).val ∧ (i 1).val < win0_12.index _ (1 : Fin 2) * 1536 + 1536
    rw [e1]; omega

/-! ## Output 13: `Row.n` -/

/-- `Row.n` of every row of the operands. -/
def arr13 : Vec Ideal S8960x256 .f32 := fun i => (kRow m c (i 0)).n (i 1)

theorem idx13 : ∀ t : Fin cfg0.N, win0_13.index t (0 : Fin 2) = t.val ∧ win0_13.index t (1 : Fin 2) = 0 :=
  (by decide +kernel : ∀ t : Fin grid0.N, _)

theorem flush13 : ∀ t : Fin cfg0.N, (cfg0.win 13).flush t = true :=
  (by decide +kernel : ∀ t : Fin grid0.N, win0_13.flush t = true)

/-- What point `t` writes back is its block of `arr13`. -/
theorem flushed13 (t : Fin cfg0.N) :
    (dats m 0 c).flushed 13 t = ((cfg0.win 13).blk t).view.read (Elt Ideal) (arr13 m c) := by
  show (cfg0.win 13).cut (grid0.coords t) ((dats m 0 c).after 13 t) = _
  rw [after0_13, point_13]
  obtain ⟨e0, e1⟩ := idx13 t
  funext y
  have hy0 : (y 0).val < 256 := (y 0).isLt
  have hy1 : (y 1).val < 256 := (y 1).isLt
  have hb0 : (((cfg0.win 13).blk t).view.emb y 0).val = win0_13.index t (0 : Fin 2) * 256 + 1 * (y 0).val := rfl
  have hb1 : (((cfg0.win 13).blk t).view.emb y 1).val = win0_13.index t (1 : Fin 2) * 256 + 1 * (y 1).val := rfl
  show ((blkAt m c t).row ⟨(y 0).val, hy0⟩).n ⟨(y 1).val, hy1⟩
    = (kRow m c (((cfg0.win 13).blk t).view.emb y 0)).n (((cfg0.win 13).blk t).view.emb y 1)
  rw [row_blkAt m c t ⟨(y 0).val, hy0⟩ (((cfg0.win 13).blk t).view.emb y 0) (by rw [hb0]; simp only []; omega)]
  refine congrArg (kRow m c _).n (Fin.ext ?_)
  rw [hb1]
  simp only []
  omega

/-- An index of the array is in point `t`'s block iff each coordinate is in the block's range on its axis. -/
theorem mem_blk13 (t : Fin cfg0.N) (i : S8960x256.Idx) :
    i ∈ ((cfg0.win 13).blk t).view.set ↔ ∀ a : Fin 2, win0_13.index t a * S256x256.size a ≤ (i a).val
      ∧ (i a).val < win0_13.index t a * S256x256.size a + S256x256.size a := by
  show i ∈ ((View.whole main_v6_2).slice (win0_13.rect t)).set ↔ _
  rw [View.set_slice_whole, Rect.mem_set_unit]
  exact Iff.rfl

/-- The array after the run. -/
theorem final13 : (dats m 0 c).arrAt 13 cfg0.N = arr13 m c := by
  refine (dats m 0 c).arrAt_eq_of_cover 13 _ (fun t _ => flushed13 m c t) fun i => ?_
  have h0 : (i 0).val < 8960 := (i 0).isLt
  have h1 : (i 1).val < 256 := (i 1).isLt
  refine ⟨⟨(i 0).val / 256, lt_of_lt_of_eq (by omega) N_0.symm⟩, flush13 _, ?_⟩
  obtain ⟨e0, e1⟩ := idx13 ⟨(i 0).val / 256, lt_of_lt_of_eq (by omega) N_0.symm⟩
  rw [mem_blk13]
  intro a
  match a with
  | ⟨0, _⟩ =>
    show win0_13.index _ (0 : Fin 2) * 256 ≤ (i 0).val ∧ (i 0).val < win0_13.index _ (0 : Fin 2) * 256 + 256
    rw [e0]; simp only []; omega
  | ⟨1, _⟩ =>
    show win0_13.index _ (1 : Fin 2) * 256 ≤ (i 1).val ∧ (i 1).val < win0_13.index _ (1 : Fin 2) * 256 + 256
    rw [e1]; omega

/-! ## Output 14: `Row.mC` -/

/-- `Row.mC` of every row of the operands. -/
def arr14 : Vec Ideal S8960x256 .i8 := fun i => (kRow m c (i 0)).mC (i 1)

theorem idx14 : ∀ t : Fin cfg0.N, win0_14.index t (0 : Fin 2) = t.val ∧ win0_14.index t (1 : Fin 2) = 0 :=
  (by decide +kernel : ∀ t : Fin grid0.N, _)

theorem flush14 : ∀ t : Fin cfg0.N, (cfg0.win 14).flush t = true :=
  (by decide +kernel : ∀ t : Fin grid0.N, win0_14.flush t = true)

/-- What point `t` writes back is its block of `arr14`. -/
theorem flushed14 (t : Fin cfg0.N) :
    (dats m 0 c).flushed 14 t = ((cfg0.win 14).blk t).view.read (Elt Ideal) (arr14 m c) := by
  show (cfg0.win 14).cut (grid0.coords t) ((dats m 0 c).after 14 t) = _
  rw [after0_14, point_14]
  obtain ⟨e0, e1⟩ := idx14 t
  funext y
  have hy0 : (y 0).val < 256 := (y 0).isLt
  have hy1 : (y 1).val < 256 := (y 1).isLt
  have hb0 : (((cfg0.win 14).blk t).view.emb y 0).val = win0_14.index t (0 : Fin 2) * 256 + 1 * (y 0).val := rfl
  have hb1 : (((cfg0.win 14).blk t).view.emb y 1).val = win0_14.index t (1 : Fin 2) * 256 + 1 * (y 1).val := rfl
  show ((blkAt m c t).row ⟨(y 0).val, hy0⟩).mC ⟨(y 1).val, hy1⟩
    = (kRow m c (((cfg0.win 14).blk t).view.emb y 0)).mC (((cfg0.win 14).blk t).view.emb y 1)
  rw [row_blkAt m c t ⟨(y 0).val, hy0⟩ (((cfg0.win 14).blk t).view.emb y 0) (by rw [hb0]; simp only []; omega)]
  refine congrArg (kRow m c _).mC (Fin.ext ?_)
  rw [hb1]
  simp only []
  omega

/-- An index of the array is in point `t`'s block iff each coordinate is in the block's range on its axis. -/
theorem mem_blk14 (t : Fin cfg0.N) (i : S8960x256.Idx) :
    i ∈ ((cfg0.win 14).blk t).view.set ↔ ∀ a : Fin 2, win0_14.index t a * S256x256.size a ≤ (i a).val
      ∧ (i a).val < win0_14.index t a * S256x256.size a + S256x256.size a := by
  show i ∈ ((View.whole main_v6_3).slice (win0_14.rect t)).set ↔ _
  rw [View.set_slice_whole, Rect.mem_set_unit]
  exact Iff.rfl

/-- The array after the run. -/
theorem final14 : (dats m 0 c).arrAt 14 cfg0.N = arr14 m c := by
  refine (dats m 0 c).arrAt_eq_of_cover 14 _ (fun t _ => flushed14 m c t) fun i => ?_
  have h0 : (i 0).val < 8960 := (i 0).isLt
  have h1 : (i 1).val < 256 := (i 1).isLt
  refine ⟨⟨(i 0).val / 256, lt_of_lt_of_eq (by omega) N_0.symm⟩, flush14 _, ?_⟩
  obtain ⟨e0, e1⟩ := idx14 ⟨(i 0).val / 256, lt_of_lt_of_eq (by omega) N_0.symm⟩
  rw [mem_blk14]
  intro a
  match a with
  | ⟨0, _⟩ =>
    show win0_14.index _ (0 : Fin 2) * 256 ≤ (i 0).val ∧ (i 0).val < win0_14.index _ (0 : Fin 2) * 256 + 256
    rw [e0]; simp only []; omega
  | ⟨1, _⟩ =>
    show win0_14.index _ (1 : Fin 2) * 256 ≤ (i 1).val ∧ (i 1).val < win0_14.index _ (1 : Fin 2) * 256 + 256
    rw [e1]; omega

/-! ## Output 15: `Row.mS` -/

/-- `Row.mS` of every row of the operands, groups along the first axis. -/
def arr15 : Vec Ideal S2x8960 .f32 := fun i => (kRow m c (i 1)).mS (i 0)

theorem idx15 : ∀ t : Fin cfg0.N, win0_15.index t (0 : Fin 2) = 0 ∧ win0_15.index t (1 : Fin 2) = t.val :=
  (by decide +kernel : ∀ t : Fin grid0.N, _)

theorem flush15 : ∀ t : Fin cfg0.N, (cfg0.win 15).flush t = true :=
  (by decide +kernel : ∀ t : Fin grid0.N, win0_15.flush t = true)

/-- What point `t` writes back is its block of `arr15`. -/
theorem flushed15 (t : Fin cfg0.N) :
    (dats m 0 c).flushed 15 t = ((cfg0.win 15).blk t).view.read (Elt Ideal) (arr15 m c) := by
  show (cfg0.win 15).cut (grid0.coords t) ((dats m 0 c).after 15 t) = _
  rw [after0_15, point_15]
  obtain ⟨e0, e1⟩ := idx15 t
  funext y
  have hy0 : (y 0).val < 2 := (y 0).isLt
  have hy1 : (y 1).val < 256 := (y 1).isLt
  have hb0 : (((cfg0.win 15).blk t).view.emb y 0).val = win0_15.index t (0 : Fin 2) * 2 + 1 * (y 0).val := rfl
  have hb1 : (((cfg0.win 15).blk t).view.emb y 1).val = win0_15.index t (1 : Fin 2) * 256 + 1 * (y 1).val := rfl
  show ((blkAt m c t).row ⟨(y 1).val, hy1⟩).mS ⟨(y 0).val, hy0⟩
    = (kRow m c (((cfg0.win 15).blk t).view.emb y 1)).mS (((cfg0.win 15).blk t).view.emb y 0)
  rw [row_blkAt m c t ⟨(y 1).val, hy1⟩ (((cfg0.win 15).blk t).view.emb y 1) (by rw [hb1]; simp only []; omega)]
  refine congrArg (kRow m c _).mS (Fin.ext ?_)
  rw [hb0]
  simp only []
  omega

/-- An index of the array is in point `t`'s block iff each coordinate is in the block's range on its axis. -/
theorem mem_blk15 (t : Fin cfg0.N) (i : S2x8960.Idx) :
    i ∈ ((cfg0.win 15).blk t).view.set ↔ ∀ a : Fin 2, win0_15.index t a * S2x256.size a ≤ (i a).val
      ∧ (i a).val < win0_15.index t a * S2x256.size a + S2x256.size a := by
  show i ∈ ((View.whole main_v6_4).slice (win0_15.rect t)).set ↔ _
  rw [View.set_slice_whole, Rect.mem_set_unit]
  exact Iff.rfl

/-- The array after the run. -/
theorem final15 : (dats m 0 c).arrAt 15 cfg0.N = arr15 m c := by
  refine (dats m 0 c).arrAt_eq_of_cover 15 _ (fun t _ => flushed15 m c t) fun i => ?_
  have h0 : (i 0).val < 2 := (i 0).isLt
  have h1 : (i 1).val < 8960 := (i 1).isLt
  refine ⟨⟨(i 1).val / 256, lt_of_lt_of_eq (by omega) N_0.symm⟩, flush15 _, ?_⟩
  obtain ⟨e0, e1⟩ := idx15 ⟨(i 1).val / 256, lt_of_lt_of_eq (by omega) N_0.symm⟩
  rw [mem_blk15]
  intro a
  match a with
  | ⟨0, _⟩ =>
    show win0_15.index _ (0 : Fin 2) * 2 ≤ (i 0).val ∧ (i 0).val < win0_15.index _ (0 : Fin 2) * 2 + 2
    rw [e0]; omega
  | ⟨1, _⟩ =>
    show win0_15.index _ (1 : Fin 2) * 256 ≤ (i 1).val ∧ (i 1).val < win0_15.index _ (1 : Fin 2) * 256 + 256
    rw [e1]; simp only []; omega

/-! ## Output 16: `Row.vC` -/

/-- `Row.vC` of every row of the operands. -/
def arr16 : Vec Ideal S8960x256 .i8 := fun i => (kRow m c (i 0)).vC (i 1)

theorem idx16 : ∀ t : Fin cfg0.N, win0_16.index t (0 : Fin 2) = t.val ∧ win0_16.index t (1 : Fin 2) = 0 :=
  (by decide +kernel : ∀ t : Fin grid0.N, _)

theorem flush16 : ∀ t : Fin cfg0.N, (cfg0.win 16).flush t = true :=
  (by decide +kernel : ∀ t : Fin grid0.N, win0_16.flush t = true)

/-- What point `t` writes back is its block of `arr16`. -/
theorem flushed16 (t : Fin cfg0.N) :
    (dats m 0 c).flushed 16 t = ((cfg0.win 16).blk t).view.read (Elt Ideal) (arr16 m c) := by
  show (cfg0.win 16).cut (grid0.coords t) ((dats m 0 c).after 16 t) = _
  rw [after0_16, point_16]
  obtain ⟨e0, e1⟩ := idx16 t
  funext y
  have hy0 : (y 0).val < 256 := (y 0).isLt
  have hy1 : (y 1).val < 256 := (y 1).isLt
  have hb0 : (((cfg0.win 16).blk t).view.emb y 0).val = win0_16.index t (0 : Fin 2) * 256 + 1 * (y 0).val := rfl
  have hb1 : (((cfg0.win 16).blk t).view.emb y 1).val = win0_16.index t (1 : Fin 2) * 256 + 1 * (y 1).val := rfl
  show ((blkAt m c t).row ⟨(y 0).val, hy0⟩).vC ⟨(y 1).val, hy1⟩
    = (kRow m c (((cfg0.win 16).blk t).view.emb y 0)).vC (((cfg0.win 16).blk t).view.emb y 1)
  rw [row_blkAt m c t ⟨(y 0).val, hy0⟩ (((cfg0.win 16).blk t).view.emb y 0) (by rw [hb0]; simp only []; omega)]
  refine congrArg (kRow m c _).vC (Fin.ext ?_)
  rw [hb1]
  simp only []
  omega

/-- An index of the array is in point `t`'s block iff each coordinate is in the block's range on its axis. -/
theorem mem_blk16 (t : Fin cfg0.N) (i : S8960x256.Idx) :
    i ∈ ((cfg0.win 16).blk t).view.set ↔ ∀ a : Fin 2, win0_16.index t a * S256x256.size a ≤ (i a).val
      ∧ (i a).val < win0_16.index t a * S256x256.size a + S256x256.size a := by
  show i ∈ ((View.whole main_v6_5).slice (win0_16.rect t)).set ↔ _
  rw [View.set_slice_whole, Rect.mem_set_unit]
  exact Iff.rfl

/-- The array after the run. -/
theorem final16 : (dats m 0 c).arrAt 16 cfg0.N = arr16 m c := by
  refine (dats m 0 c).arrAt_eq_of_cover 16 _ (fun t _ => flushed16 m c t) fun i => ?_
  have h0 : (i 0).val < 8960 := (i 0).isLt
  have h1 : (i 1).val < 256 := (i 1).isLt
  refine ⟨⟨(i 0).val / 256, lt_of_lt_of_eq (by omega) N_0.symm⟩, flush16 _, ?_⟩
  obtain ⟨e0, e1⟩ := idx16 ⟨(i 0).val / 256, lt_of_lt_of_eq (by omega) N_0.symm⟩
  rw [mem_blk16]
  intro a
  match a with
  | ⟨0, _⟩ =>
    show win0_16.index _ (0 : Fin 2) * 256 ≤ (i 0).val ∧ (i 0).val < win0_16.index _ (0 : Fin 2) * 256 + 256
    rw [e0]; simp only []; omega
  | ⟨1, _⟩ =>
    show win0_16.index _ (1 : Fin 2) * 256 ≤ (i 1).val ∧ (i 1).val < win0_16.index _ (1 : Fin 2) * 256 + 256
    rw [e1]; omega

/-! ## Output 17: `Row.vS` -/

/-- `Row.vS` of every row of the operands, groups along the first axis. -/
def arr17 : Vec Ideal S2x8960 .f32 := fun i => (kRow m c (i 1)).vS (i 0)

theorem idx17 : ∀ t : Fin cfg0.N, win0_17.index t (0 : Fin 2) = 0 ∧ win0_17.index t (1 : Fin 2) = t.val :=
  (by decide +kernel : ∀ t : Fin grid0.N, _)

theorem flush17 : ∀ t : Fin cfg0.N, (cfg0.win 17).flush t = true :=
  (by decide +kernel : ∀ t : Fin grid0.N, win0_17.flush t = true)

/-- What point `t` writes back is its block of `arr17`. -/
theorem flushed17 (t : Fin cfg0.N) :
    (dats m 0 c).flushed 17 t = ((cfg0.win 17).blk t).view.read (Elt Ideal) (arr17 m c) := by
  show (cfg0.win 17).cut (grid0.coords t) ((dats m 0 c).after 17 t) = _
  rw [after0_17, point_17]
  obtain ⟨e0, e1⟩ := idx17 t
  funext y
  have hy0 : (y 0).val < 2 := (y 0).isLt
  have hy1 : (y 1).val < 256 := (y 1).isLt
  have hb0 : (((cfg0.win 17).blk t).view.emb y 0).val = win0_17.index t (0 : Fin 2) * 2 + 1 * (y 0).val := rfl
  have hb1 : (((cfg0.win 17).blk t).view.emb y 1).val = win0_17.index t (1 : Fin 2) * 256 + 1 * (y 1).val := rfl
  show ((blkAt m c t).row ⟨(y 1).val, hy1⟩).vS ⟨(y 0).val, hy0⟩
    = (kRow m c (((cfg0.win 17).blk t).view.emb y 1)).vS (((cfg0.win 17).blk t).view.emb y 0)
  rw [row_blkAt m c t ⟨(y 1).val, hy1⟩ (((cfg0.win 17).blk t).view.emb y 1) (by rw [hb1]; simp only []; omega)]
  refine congrArg (kRow m c _).vS (Fin.ext ?_)
  rw [hb0]
  simp only []
  omega

/-- An index of the array is in point `t`'s block iff each coordinate is in the block's range on its axis. -/
theorem mem_blk17 (t : Fin cfg0.N) (i : S2x8960.Idx) :
    i ∈ ((cfg0.win 17).blk t).view.set ↔ ∀ a : Fin 2, win0_17.index t a * S2x256.size a ≤ (i a).val
      ∧ (i a).val < win0_17.index t a * S2x256.size a + S2x256.size a := by
  show i ∈ ((View.whole main_v6_6).slice (win0_17.rect t)).set ↔ _
  rw [View.set_slice_whole, Rect.mem_set_unit]
  exact Iff.rfl

/-- The array after the run. -/
theorem final17 : (dats m 0 c).arrAt 17 cfg0.N = arr17 m c := by
  refine (dats m 0 c).arrAt_eq_of_cover 17 _ (fun t _ => flushed17 m c t) fun i => ?_
  have h0 : (i 0).val < 2 := (i 0).isLt
  have h1 : (i 1).val < 8960 := (i 1).isLt
  refine ⟨⟨(i 1).val / 256, lt_of_lt_of_eq (by omega) N_0.symm⟩, flush17 _, ?_⟩
  obtain ⟨e0, e1⟩ := idx17 ⟨(i 1).val / 256, lt_of_lt_of_eq (by omega) N_0.symm⟩
  rw [mem_blk17]
  intro a
  match a with
  | ⟨0, _⟩ =>
    show win0_17.index _ (0 : Fin 2) * 2 ≤ (i 0).val ∧ (i 0).val < win0_17.index _ (0 : Fin 2) * 2 + 2
    rw [e0]; omega
  | ⟨1, _⟩ =>
    show win0_17.index _ (1 : Fin 2) * 256 ≤ (i 1).val ∧ (i 1).val < win0_17.index _ (1 : Fin 2) * 256 + 256
    rw [e1]; simp only []; omega

end Cert.KernelIdeal.Block
end
-- ==== Proof.Entry.lean ====
module

public import proofs.«01_k».proof.Proof.Arrays

@[expose] public section

set_option maxRecDepth 16384

noncomputable section

open Idealize.ShloMosaic Idealize.ShloMosaic.TcCoe Idealize.SL.Sem
open Idealize.ShloMosaic.Pipeline (Dat)

/-!
# The operands of the region, and what the run leaves

Before the region the host reshapes the activations to one row per token and transposes the scales; after it
the host transposes the new scales back.
-/
namespace Cert.KernelIdeal.Block
open Cert.KernelIdeal Cert.KernelIdeal.Gen Cert.Galore
variable (m : (ℓ : Loc nD τ sig) → Buf (Elt Ideal) ℓ) (c : Dev nD)

/-! ## The operands, in terms of the arguments -/

theorem op0_eq : op0 m c = shapeCast S1536x1536 (m ((c : Thread nD τ).loc main_arg0) : Vec Ideal S4x384x1536 .bf16)
    shapeCasts_S4x384x1536_S1536x1536 := by
  show Gen.V m c main_v0 = _
  entry_read
  rfl
theorem op1_eq : op1 m c = shapeCast S1536x8960 (m ((c : Thread nD τ).loc main_arg1) : Vec Ideal S4x384x8960 .bf16)
    shapeCasts_S4x384x8960_S1536x8960 := by
  show Gen.V m c main_v1 = _
  entry_read
  rfl
theorem op3_eq : op3 m c = transpose S6x256 [1, 0] (m ((c : Thread nD τ).loc main_arg3) : Vec Ideal S256x6 .f32)
    transposes_S256x6_S6x256_1_0 := by
  show Gen.V m c main_v2 = _
  entry_read
  rfl
theorem op5_eq : op5 m c = transpose S2x8960 [1, 0] (m ((c : Thread nD τ).loc main_arg5) : Vec Ideal S8960x2 .f32)
    transposes_S8960x2_S2x8960_1_0 := by
  show Gen.V m c main_v3 = _
  entry_read
  rfl
theorem op7_eq : op7 m c = transpose S2x8960 [1, 0] (m ((c : Thread nD τ).loc main_arg7) : Vec Ideal S8960x2 .f32)
    transposes_S8960x2_S2x8960_1_0 := by
  show Gen.V m c main_v4 = _
  entry_read
  rfl
theorem op9_eq : op9 m c = shapeCast S1x8960 (m ((c : Thread nD τ).loc main_arg9) : Vec Ideal S8960 .f32)
    shapeCasts_S8960_S1x8960 := by
  show Gen.V m c main_v5 = _
  entry_read
  rfl

/-! ## What the run leaves -/

/-- The new scales of the first moment, one row per output row. -/
def res4 : Vec Ideal S8960x2 .f32 := fun i => (kRow m c (i 0)).mS (i 1)

/-- The new scales of the second moment, one row per output row. -/
def res6 : Vec Ideal S8960x2 .f32 := fun i => (kRow m c (i 0)).vS (i 1)

/-- Each window has its own array. -/
theorem arr_inj : Function.Injective (Pipeline.arrRef (cfgs 0).spec) :=
  (by decide +kernel : Function.Injective (Pipeline.arrRef spec0))

/-- The line after the region leaves in `main_v7` the transpose of what it finds in `main_v6_4`. -/
theorem after_v7 (W : Valuation τ sig (Elt Ideal)) :
    StableHlo.after ([hostOps1] : List (List (HloOp τ sig (Elt Ideal)))).flatten W (Proc.devRef .tc main_v7)
      = transpose S8960x2 [1, 0] (W (Proc.devRef .tc main_v6_4) : Vec Ideal S2x8960 .f32) transposes_S2x8960_S8960x2_1_0 := by
  simp only [hostOps1, List.flatten_cons, List.flatten_nil, List.append_nil]
  after_results

/-- The scales, transposed back after the region. -/
theorem tail4 : Pipeline.afterTail₀ cfgs (dats m) 0 (V0 m) [hostOps1] c main_v7 = res4 m c := by
  unfold Pipeline.afterTail₀
  rw [after_v7]
  have e := Pipeline.withArrays_arr (cfgs 0).spec arr_inj c (V0 m c) (fun w => (dats m 0 c).arrAt w (cfgs 0).N)
    (15 : Fin 18)
  have e' := e.trans (final15 m c)
  refine (congrArg (fun x : Vec Ideal S2x8960 .f32 => transpose S8960x2 [1, 0] x transposes_S2x8960_S8960x2_1_0) e').trans ?_
  funext i
  rw [eq_ix2 i]
  pointwise [arr15]
  rfl

/-- The line after the region leaves in `main_v8` the transpose of what it finds in `main_v6_6`. -/
theorem after_v8 (W : Valuation τ sig (Elt Ideal)) :
    StableHlo.after ([hostOps1] : List (List (HloOp τ sig (Elt Ideal)))).flatten W (Proc.devRef .tc main_v8)
      = transpose S8960x2 [1, 0] (W (Proc.devRef .tc main_v6_6) : Vec Ideal S2x8960 .f32) transposes_S2x8960_S8960x2_1_0 := by
  simp only [hostOps1, List.flatten_cons, List.flatten_nil, List.append_nil]
  after_results

/-- The scales, transposed back after the region. -/
theorem tail6 : Pipeline.afterTail₀ cfgs (dats m) 0 (V0 m) [hostOps1] c main_v8 = res6 m c := by
  unfold Pipeline.afterTail₀
  rw [after_v8]
  have e := Pipeline.withArrays_arr (cfgs 0).spec arr_inj c (V0 m c) (fun w => (dats m 0 c).arrAt w (cfgs 0).N)
    (17 : Fin 18)
  have e' := e.trans (final17 m c)
  refine (congrArg (fun x : Vec Ideal S2x8960 .f32 => transpose S8960x2 [1, 0] x transposes_S2x8960_S8960x2_1_0) e').trans ?_
  funext i
  rw [eq_ix2 i]
  pointwise [arr17]
  rfl

end Cert.KernelIdeal.Block
end
-- ==== Proof.Run.lean ====
module

public import proofs.«01_k».proof.Proof.Entry

@[expose] public section

set_option maxRecDepth 16384

noncomputable section

open Idealize.ShloMosaic Idealize.ShloMosaic.TcCoe Idealize.SL.Sem
open Idealize.ShloMosaic.Pipeline (Dat)

/-!
# The kernel's run, its results named

Every execution ends with each result buffer holding the formula of `Row` at every row of the operands, and
with the arguments as they were.
-/
namespace Cert.KernelIdeal.Block
open Cert.KernelIdeal Cert.KernelIdeal.Gen Cert.Galore
variable (m : (ℓ : Loc nD τ sig) → Buf (Elt Ideal) ℓ) (ρ : Dev nD → PrngReg)

/-- Every execution of the kernel's program ends, with the seven results at their formulas and the arguments unchanged. -/
theorem run_values : θ_run defs (onTc (τ := τ) (main (F := Ideal))) ⟨m, fun _ => 0, ρ⟩ fun r => ∀ c : Dev nD,
      r.2.mem ((c : Thread nD τ).loc main_v6_0) = arr11 m c
      ∧ r.2.mem ((c : Thread nD τ).loc main_v6_1) = arr12 m c
      ∧ r.2.mem ((c : Thread nD τ).loc main_v6_2) = arr13 m c
      ∧ r.2.mem ((c : Thread nD τ).loc main_v6_3) = arr14 m c
      ∧ r.2.mem ((c : Thread nD τ).loc main_v7) = res4 m c
      ∧ r.2.mem ((c : Thread nD τ).loc main_v6_5) = arr16 m c
      ∧ r.2.mem ((c : Thread nD τ).loc main_v8) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 11).trans (final11 m c),
      ((h c).1 12).trans (final12 m c),
      ((h c).1 13).trans (final13 m c),
      ((h c).1 14).trans (final14 m c),
      ((h c).2 main_v7 (Pipeline.mem_restRefs_of main_v7 (by decide) (by decide))).trans (tail4 m c),
      ((h c).1 16).trans (final16 m c),
      ((h c).2 main_v8 (Pipeline.mem_restRefs_of main_v8 (by decide) (by decide))).trans (tail6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c)))⟩)
    (run_main m ρ)

end Cert.KernelIdeal.Block
end
-- ==== Proof.Reference.lean ====
module

public import proofs.«01_k».proof.Proof.Gen.ReferenceIdeal.Run
public import proofs.«01_k».proof.Proof.Model

@[expose] public section

set_option maxRecDepth 16384

noncomputable section

open Idealize.ShloMosaic Idealize.ShloMosaic.TcCoe Idealize.SL.Sem
open Idealize.ShloMosaic.Pipeline (Dat)
/-!
# The reference, stage by stage

The reference's results are long terms in its arguments.  Here they are cut into named stages: the weight's
gradient, the two halves of the projector, the projected gradient, a moment, a moment's scales and codes, the
direction, the step and the new weight.
-/
namespace Cert.ReferenceIdeal.Stage
open Cert.ReferenceIdeal Cert.ReferenceIdeal.Gen Cert.ReferenceIdeal.Value Idealize.ShloMosaic.TcCoe Idealize.SL.Sem
variable {F : FTy → Type} [FloatOps F]

/-- The gradient of the weight: the product of the two activations summed over all tokens. -/
def grad (a0 : Vec F S4x384x1536 .bf16) (a1 : Vec F S4x384x8960 .bf16) : Vec F S8960x1536 .bf16 :=
  truncf .bf16 (Host.dotGeneral dot_S4x384x8960_S4x384x1536_S8960x1536_01_01_2_2_n_n none a1 a0) bitsLt_bf16_f32

/-- The even columns of the projector: the low halves of the bytes, as signed numbers, times the scales. -/
def projLo (a2 : Vec F S256x768 .i8) (a3 : Vec F S256x6 .f32) : Vec F S256x768 .bf16 :=
  mulf (sitofp .bf16 (select (cmpi .sge (andi (extui 32 a2 natLt_8_32) (broadcastInDim S256x768 ![] bcast_S_S256x768 (constantI S_ 32 15#32))) (broadcastInDim S256x768 ![] bcast_S_S256x768 (constantI S_ 32 8#32))) (subi (andi (extui 32 a2 natLt_8_32) (broadcastInDim S256x768 ![] bcast_S_S256x768 (constantI S_ 32 15#32))) (broadcastInDim S256x768 ![] bcast_S_S256x768 (constantI S_ 32 16#32))) (andi (extui 32 a2 natLt_8_32) (broadcastInDim S256x768 ![] bcast_S_S256x768 (constantI S_ 32 15#32))))) (truncf .bf16 (shapeCast _ (broadcastInDim S256x6x128 ![0, 1] bcast_S256x6_S256x6x128_0_1 a3) shapeCasts_S256x6x128_S256x768) bitsLt_bf16_f32)

/-- The odd columns of the projector: the high halves of the bytes. -/
def projHi (a2 : Vec F S256x768 .i8) (a3 : Vec F S256x6 .f32) : Vec F S256x768 .bf16 :=
  mulf (sitofp .bf16 (select (cmpi .sge (Host.shrsi (extui 32 a2 natLt_8_32) (broadcastInDim S256x768 ![] bcast_S_S256x768 (constantI S_ 32 4#32))) (broadcastInDim S256x768 ![] bcast_S_S256x768 (constantI S_ 32 8#32))) (subi (Host.shrsi (extui 32 a2 natLt_8_32) (broadcastInDim S256x768 ![] bcast_S_S256x768 (constantI S_ 32 4#32))) (broadcastInDim S256x768 ![] bcast_S_S256x768 (constantI S_ 32 16#32))) (Host.shrsi (extui 32 a2 natLt_8_32) (broadcastInDim S256x768 ![] bcast_S_S256x768 (constantI S_ 32 4#32))))) (truncf .bf16 (shapeCast _ (broadcastInDim S256x6x128 ![0, 1] bcast_S256x6_S256x6x128_0_1 a3) shapeCasts_S256x6x128_S256x768) bitsLt_bf16_f32)

/-- The projected gradient, the even and the odd columns apart. -/
def red (g : Vec F S8960x1536 .bf16) (lo : Vec F S256x768 .bf16) (hi : Vec F S256x768 .bf16) : Vec F S8960x256 .f32 :=
  addf (Host.dotGeneral dot_S8960x768_S256x768_S8960x256_1_1_0_0_n_n none (Host.slice S8960x768 ![0, 0] ![1, 2] g slicesBy_S8960x1536_S8960x768_0s1_0s2) lo) (Host.dotGeneral dot_S8960x768_S256x768_S8960x256_1_1_0_0_n_n none (Host.slice S8960x768 ![0, 1] ![1, 2] g slicesBy_S8960x1536_S8960x768_0s1_1s2) hi)

/-- The new first moment from the stored one and the projected gradient. -/
def mom1 (c : Vec F S8960x256 .i8) (q : Vec F S8960x2 .f32) (r : Vec F S8960x256 .f32) : Vec F S8960x256 .f32 :=
  addf (mulf (broadcastInDim S8960x256 ![] bcast_S_S8960x256 (constant S_ .f32 0x3F666666#32)) (mulf (sitofp .f32 (extsi 32 c natLt_8_32)) (shapeCast _ (broadcastInDim S8960x2x128 ![0, 1] bcast_S8960x2_S8960x2x128_0_1 q) shapeCasts_S8960x2x128_S8960x256))) (mulf (broadcastInDim S8960x256 ![] bcast_S_S8960x256 (constant S_ .f32 0x3DCCCCCD#32)) r)

/-- The new second moment. -/
def mom2 (c : Vec F S8960x256 .i8) (q : Vec F S8960x2 .f32) (r : Vec F S8960x256 .f32) : Vec F S8960x256 .f32 :=
  addf (mulf (broadcastInDim S8960x256 ![] bcast_S_S8960x256 (constant S_ .f32 0x3F7FBE77#32)) (mulf (sitofp .f32 (extsi 32 c natLt_8_32)) (shapeCast _ (broadcastInDim S8960x2x128 ![0, 1] bcast_S8960x2_S8960x2x128_0_1 q) shapeCasts_S8960x2x128_S8960x256))) (mulf (mulf (broadcastInDim S8960x256 ![] bcast_S_S8960x256 (constant S_ .f32 0x3A83126F#32)) r) r)

/-- The scales of the groups of 128 of an array. -/
def scales (x : Vec F S8960x256 .f32) : Vec F S8960x2 .f32 :=
  select (cmpf .oeq (Host.reduce FloatOps.maximumf (Host.absf (shapeCast _ x shapeCasts_S8960x256_S8960x2x128)) (constant S_ .f32 0xFF800000#32) reducesTo_S8960x2x128_S8960x2_d2 h_S_) (broadcastInDim S8960x2 ![] bcast_S_S8960x2 (constant S_ .f32 0x00000000#32))) (broadcastInDim S8960x2 ![] bcast_S_S8960x2 (id (constant S_ .f32 0x3F800000#32))) (Host.divf (Host.reduce FloatOps.maximumf (Host.absf (shapeCast _ x shapeCasts_S8960x256_S8960x2x128)) (constant S_ .f32 0xFF800000#32) reducesTo_S8960x2x128_S8960x2_d2 h_S_) (broadcastInDim S8960x2 ![] bcast_S_S8960x2 (constant S_ .f32 0x42FE0000#32)))

/-- The codes of an array under its scales. -/
def codes (x : Vec F S8960x256 .f32) (q : Vec F S8960x2 .f32) : Vec F S8960x256 .i8 :=
  shapeCast _ (trunci 8 (fptosi 32 (minimumf (broadcastInDim S8960x2x128 ![] bcast_S_S8960x2x128 (sitofp .f32 (constantI S_ 32 127#32))) (maximumf (broadcastInDim S8960x2x128 ![] bcast_S_S8960x2x128 (sitofp .f32 (constantI S_ 32 4294967169#32))) (Host.roundeven (Host.divf (shapeCast _ x shapeCasts_S8960x256_S8960x2x128) (broadcastInDim S8960x2x128 ![0, 1, 2] bcast_S8960x2x1_S8960x2x128_0_1_2 (broadcastInDim S8960x2x1 ![0, 1] bcast_S8960x2_S8960x2x1_0_1 q))))))) natLt_8_32) shapeCasts_S8960x2x128_S8960x256

/-- Adam's direction. -/
def dir (x : Vec F S8960x256 .f32) (v : Vec F S8960x256 .f32) : Vec F S8960x256 .f32 :=
  Host.divf (Host.divf x (broadcastInDim S8960x256 ![] bcast_S_S8960x256 (constant S_ .f32 0x3F26BD02#32))) (addf (Host.sqrt (Host.divf v (broadcastInDim S8960x256 ![] bcast_S_S8960x256 (constant S_ .f32 0x3C231ACC#32)))) (broadcastInDim S8960x256 ![] bcast_S_S8960x256 (constant S_ .f32 0x322BCC77#32)))

/-- The step: the direction projected back, even and odd columns interleaved, times the learning rate. -/
def step (n : Vec F S8960x256 .f32) (lo : Vec F S256x768 .bf16) (hi : Vec F S256x768 .bf16) : Vec F S8960x1536 .f32 :=
  mulf (broadcastInDim S8960x1536 ![] bcast_S_S8960x1536 (constant S_ .f32 0x3A83126F#32)) (shapeCast _ (concatenate S8960x768x2 2 [⟨S8960x768x1, (broadcastInDim S8960x768x1 ![0, 1] bcast_S8960x768_S8960x768x1_0_1 (Host.dotGeneral dot_S8960x256_S256x768_S8960x768_1_0_0_1_n_n none (truncf .bf16 n bitsLt_bf16_f32) lo))⟩, ⟨S8960x768x1, (broadcastInDim S8960x768x1 ![0, 1] bcast_S8960x768_S8960x768x1_0_1 (Host.dotGeneral dot_S8960x256_S256x768_S8960x768_1_0_0_1_n_n none (truncf .bf16 n bitsLt_bf16_f32) hi))⟩] concatenates_S8960x768x1_S8960x768x1_S8960x768x2_d2) shapeCasts_S8960x768x2_S8960x1536)

/-- The new codes of the weight. -/
def weight (c : Vec F S8960x1536 .i8) (q : Vec F S8960 .f32) (δ : Vec F S8960x1536 .f32) (u : Vec F S8960x1536 .i8) : Vec F S8960x1536 .i8 :=
  trunci 8 (fptosi 32 (minimumf (broadcastInDim S8960x1536 ![] bcast_S_S8960x1536 (sitofp .f32 (constantI S_ 32 127#32))) (maximumf (broadcastInDim S8960x1536 ![] bcast_S_S8960x1536 (sitofp .f32 (constantI S_ 32 4294967169#32))) (Host.floor (addf (Host.divf (subf (mulf (sitofp .f32 (extsi 32 c natLt_8_32)) (broadcastInDim S8960x1536 ![0, 1] bcast_S8960x1_S8960x1536_0_1 (broadcastInDim S8960x1 ![0] bcast_S8960_S8960x1_0 q))) δ) (broadcastInDim S8960x1536 ![0, 1] bcast_S8960x1_S8960x1536_0_1 (broadcastInDim S8960x1 ![0] bcast_S8960_S8960x1_0 q))) (mulf (sitofp .f32 (extui 32 u natLt_8_32)) (broadcastInDim S8960x1536 ![] bcast_S_S8960x1536 (constant S_ .f32 0x3B800000#32)))))))) natLt_8_32

/-! ## The results are these stages of the arguments -/
section
variable (m : (ℓ : Loc nD τ sig) → Buf (Elt F) ℓ) (c : Dev nD)

/-- Argument 0. -/
abbrev a0 : Vec F S4x384x1536 .bf16 := m ((c.tc : Thread nD τ).loc main_arg0)
/-- Argument 1. -/
abbrev a1 : Vec F S4x384x8960 .bf16 := m ((c.tc : Thread nD τ).loc main_arg1)
/-- Argument 2. -/
abbrev a2 : Vec F S256x768 .i8 := m ((c.tc : Thread nD τ).loc main_arg2)
/-- Argument 3. -/
abbrev a3 : Vec F S256x6 .f32 := m ((c.tc : Thread nD τ).loc main_arg3)
/-- Argument 4. -/
abbrev a4 : Vec F S8960x256 .i8 := m ((c.tc : Thread nD τ).loc main_arg4)
/-- Argument 5. -/
abbrev a5 : Vec F S8960x2 .f32 := m ((c.tc : Thread nD τ).loc main_arg5)
/-- Argument 6. -/
abbrev a6 : Vec F S8960x256 .i8 := m ((c.tc : Thread nD τ).loc main_arg6)
/-- Argument 7. -/
abbrev a7 : Vec F S8960x2 .f32 := m ((c.tc : Thread nD τ).loc main_arg7)
/-- Argument 8. -/
abbrev a8 : Vec F S8960x1536 .i8 := m ((c.tc : Thread nD τ).loc main_arg8)
/-- Argument 9. -/
abbrev a9 : Vec F S8960 .f32 := m ((c.tc : Thread nD τ).loc main_arg9)
/-- Argument 10. -/
abbrev a10 : Vec F S8960x1536 .i8 := m ((c.tc : Thread nD τ).loc main_arg10)

/-- The gradient of the weight. -/
def G : Vec F S8960x1536 .bf16 := grad (a0 m c) (a1 m c)
/-- The even columns of the projector. -/
def Lo : Vec F S256x768 .bf16 := projLo (a2 m c) (a3 m c)
/-- The odd columns of the projector. -/
def Hi : Vec F S256x768 .bf16 := projHi (a2 m c) (a3 m c)
/-- The projected gradient. -/
def R : Vec F S8960x256 .f32 := red (G m c) (Lo m c) (Hi m c)
/-- The new first moment. -/
def M : Vec F S8960x256 .f32 := mom1 (a4 m c) (a5 m c) (R m c)
/-- The new second moment. -/
def V : Vec F S8960x256 .f32 := mom2 (a6 m c) (a7 m c) (R m c)
/-- The direction. -/
def N : Vec F S8960x256 .f32 := dir (M m c) (V m c)
/-- The step. -/
def Δ : Vec F S8960x1536 .f32 := step (N m c) (Lo m c) (Hi m c)

/-- The direction as the program names it. -/
theorem res_n : res_main_v58 m c = N m c := by
  rfl
/-- The scales of the first moment. -/
theorem res_mS : res_main_v66 m c = scales (M m c) := by
  rfl
/-- The codes of the first moment. -/
theorem res_mC : res_main_v74 m c = codes (M m c) (scales (M m c)) := by
  rfl
/-- The scales of the second moment. -/
theorem res_vS : res_main_v82 m c = scales (V m c) := by
  rfl
/-- The codes of the second moment. -/
theorem res_vC : res_main_v90 m c = codes (V m c) (scales (V m c)) := by
  rfl
/-- The step. -/
theorem res_delta : res_main_v99 m c = Δ m c := by
  rfl
/-- The weight's new codes. -/
theorem res_w : res_main_v117 m c = weight (a8 m c) (a9 m c) (Δ m c) (a10 m c) := by
  rfl
end
end Cert.ReferenceIdeal.Stage
end
-- ==== Proof.RefStep.lean ====
module

public import proofs.«01_k».proof.Proof.Reference

@[expose] public section

set_option maxRecDepth 16384

noncomputable section

open Idealize.ShloMosaic Idealize.ShloMosaic.TcCoe Idealize.SL.Sem

/-!
# The reference's step at an index

The columns of the step are the even and the odd products interleaved.
-/
namespace Cert.ReferenceIdeal.Stage
open Cert.ReferenceIdeal Cert.ReferenceIdeal.Gen

/-- The step, by the parity of the column. -/
theorem step_at (n : Vec Ideal S8960x256 .f32) (lo hi : Vec Ideal S256x768 .bf16) (o : Fin 8960) (d : Fin 1536) :
    step (F := Ideal) n lo hi (ix2 o d) = Ideal.ofBits .f32 0x3A83126F#32 *
      (if d.val % 2 < 1 then ∑ x : Fin 256, (n (ix2 o x) * lo (ix2 x ⟨d.val / 2, by omega⟩) : EReal)
        else ∑ x : Fin 256, (n (ix2 o x) * hi (ix2 x ⟨d.val / 2, by omega⟩) : EReal)) := by
  pointwise [step]
  rfl

end Cert.ReferenceIdeal.Stage
end
-- ==== Proof.Arith.lean ====
module

public import proofs.«01_k».proof.Proof.Model

@[expose] public section

set_option maxRecDepth 16384

noncomputable section

open Idealize.ShloMosaic

/-!
# Arithmetic the comparison rests on

Sums taken in two orders, a nibble's sign taken two ways, and a clamped number stored as a byte directly or
through a 32-bit word.
-/
namespace Cert.Galore

/-- A sum over 1536 columns is the sum over the even ones plus the sum over the odd ones. -/
theorem sum_pairs (f : Fin 1536 → EReal) :
    ∑ d, f d = (∑ k : Fin 768, f ⟨2 * k.val, by omega⟩) + ∑ k : Fin 768, f ⟨1 + 2 * k.val, by omega⟩ := by
  rw [← Finset.sum_add_distrib, ← Equiv.sum_comp (finProdFinEquiv (m := 768) (n := 2)) f, Fintype.sum_prod_type]
  refine Finset.sum_congr rfl fun k _ => ?_
  rw [Fin.sum_univ_two]
  refine congrArg₂ (· + ·) (congrArg f (Fin.ext ?_)) (congrArg f (Fin.ext ?_))
  · simp [finProdFinEquiv]
  · simp [finProdFinEquiv]

/-- A sum over 1536 tokens is the sum over 4 sequences of 384 tokens each. -/
theorem sum_tokens (f : Fin 1536 → EReal) :
    ∑ t, f t = ∑ b : Fin 4, ∑ s : Fin 384, f ⟨384 * b.val + s.val, by omega⟩ := by
  rw [← Equiv.sum_comp (finProdFinEquiv (m := 4) (n := 384)) f, Fintype.sum_prod_type]
  refine Finset.sum_congr rfl fun b _ => Finset.sum_congr rfl fun s _ => congrArg f (Fin.ext ?_)
  simp [finProdFinEquiv]; omega

/-- The low four bits, less 16 when they are at least 8, are the low half read as a signed number. -/
theorem nibLo_select : ∀ c : BitVec 8,
    (Scalar.select (IntOp.cmpi .sge (IntOp.andi (BitVec.setWidth 32 c) 15#32) 8#32)
      (IntOp.subi (IntOp.andi (BitVec.setWidth 32 c) 15#32) 16#32)
      (IntOp.andi (BitVec.setWidth 32 c) 15#32) : BitVec 32).toInt = nibLo c := by
  decide +kernel

/-- The high four bits, less 16 when they are at least 8, are the high half read as a signed number. -/
theorem nibHi_select : ∀ c : BitVec 8,
    (Scalar.select (IntOp.cmpi .sge (IntOp.shrsi ArithUnit.host (BitVec.setWidth 32 c) 4#32) 8#32)
      (IntOp.subi (IntOp.shrsi ArithUnit.host (BitVec.setWidth 32 c) 4#32) 16#32)
      (IntOp.shrsi ArithUnit.host (BitVec.setWidth 32 c) 4#32) : BitVec 32).toInt = nibHi c := by
  decide +kernel

/-- A signed byte widened to 32 bits is the same number. -/
theorem sitofp_signExtend (c : BitVec 8) :
    FloatOps.sitofp (F := Ideal) .f32 (BitVec.signExtend 32 c) = FloatOps.sitofp (F := Ideal) .f32 c := by
  show (((BitVec.signExtend 32 c).toInt : ℝ) : EReal) = ((c.toInt : ℝ) : EReal)
  rw [BitVec.toInt_signExtend_of_le (by omega)]

/-- The low byte of a small integer's 32-bit word is its byte. -/
theorem setWidth_ofInt (n : ℤ) : BitVec.setWidth 8 (BitVec.ofInt 32 n) = BitVec.ofInt 8 n := by
  apply BitVec.eq_of_toNat_eq
  simp only [BitVec.toNat_setWidth, BitVec.toNat_ofInt]
  omega

/-- A clamped number stored as a 32-bit word and cut to its low byte is the byte stored directly. -/
theorem clampByte_word (x : EReal) :
    BitVec.setWidth 8 (FloatOps.fptosi (F := Ideal) (φ := .f32) 32
      (min (FloatOps.sitofp (F := Ideal) .f32 127#32) (max (FloatOps.sitofp (F := Ideal) .f32 4294967169#32) x)))
      = clampByte x := by
  have e1 : (127#32 : BitVec 32).toInt = 127 := by decide
  have e2 : (4294967169#32 : BitVec 32).toInt = -127 := by decide
  show BitVec.setWidth 8 (Ideal.fptosi 32 (min (((127#32 : BitVec 32).toInt : ℝ) : EReal)
    (max (((4294967169#32 : BitVec 32).toInt : ℝ) : EReal) x))) = _
  unfold clampByte
  rw [e1, e2]
  have hle : min (((127 : ℤ) : ℝ) : EReal) (max (((-127 : ℤ) : ℝ) : EReal) x) ≤ (((127 : ℤ) : ℝ) : EReal) := min_le_left _ _
  have hge : (((-127 : ℤ) : ℝ) : EReal) ≤ min (((127 : ℤ) : ℝ) : EReal) (max (((-127 : ℤ) : ℝ) : EReal) x) :=
    le_min (by exact_mod_cast (by norm_num : (-127 : ℤ) ≤ 127)) (le_max_left _ _)
  generalize min (((127 : ℤ) : ℝ) : EReal) (max (((-127 : ℤ) : ℝ) : EReal) x) = y at hle hge
  induction y with
  | bot => exact absurd hge (by simp)
  | top => exact absurd hle (by simp)
  | coe r =>
    have hr1 : r ≤ ((127 : ℤ) : ℝ) := by exact_mod_cast hle
    have hr2 : ((-127 : ℤ) : ℝ) ≤ r := by exact_mod_cast hge
    have h1 : (if 0 ≤ r then ⌊r⌋ else ⌈r⌉) ≤ 127 := by
      split
      · exact Int.cast_le.mp ((Int.floor_le r).trans hr1)
      · exact Int.ceil_le.mpr hr1
    have h2 : -127 ≤ (if 0 ≤ r then ⌊r⌋ else ⌈r⌉) := by
      split
      · exact Int.le_floor.mpr hr2
      · exact Int.cast_le.mp (hr2.trans (Int.le_ceil r))
    unfold Ideal.fptosi
    rw [Ideal.toIntClamped_coe, Ideal.toIntClamped_coe]
    generalize (if 0 ≤ r then ⌊r⌋ else ⌈r⌉) = n at h1 h2
    rw [setWidth_ofInt]
    congr 1
    norm_num
    omega

end Cert.Galore
end
-- ==== Proof.RefValue.lean ====
module

public import proofs.«01_k».proof.Proof.RefStep
public import proofs.«01_k».proof.Proof.Arith

@[expose] public section

set_option maxRecDepth 16384

noncomputable section

open Idealize.ShloMosaic Idealize.ShloMosaic.TcCoe Idealize.SL.Sem

/-!
# What the reference's stages hold, over the extended reals
-/
namespace Cert.ReferenceIdeal.Stage
open Cert.ReferenceIdeal Cert.ReferenceIdeal.Gen Cert.Galore

/-! ## Each stage at an index -/

/-- The gradient of the weight: the sum over sequences and tokens. -/
theorem grad_at (a0 : Vec Ideal S4x384x1536 .bf16) (a1 : Vec Ideal S4x384x8960 .bf16) (o : Fin 8960) (d : Fin 1536) :
    grad (F := Ideal) a0 a1 (ix2 o d) = ∑ b : Fin 4, ∑ s : Fin 384, (a1 (ix3 b s o) * a0 (ix3 b s d) : EReal) := by
  pointwise [grad]

/-- An even column of the projector. -/
theorem projLo_at (a2 : Vec Ideal S256x768 .i8) (a3 : Vec Ideal S256x6 .f32) (j : Fin 256) (k : Fin 768) :
    projLo (F := Ideal) a2 a3 (ix2 j k)
      = decode (fun k => a2 (ix2 j k)) (fun g => a3 (ix2 j g)) ⟨2 * k.val, by omega⟩ := by
  have e : decode (fun k => a2 (ix2 j k)) (fun g => a3 (ix2 j g)) ⟨2 * k.val, by omega⟩
      = ((nibLo (a2 (ix2 j k)) : ℝ) : EReal) * a3 (ix2 j ⟨k.val / 128, by omega⟩) := by
    unfold decode
    rw [if_pos (by simp only []; omega)]
    have h1 : (⟨2 * k.val / 2, by omega⟩ : Fin 768) = k := Fin.ext (by simp only []; omega)
    have h2 : (⟨2 * k.val / 256, by omega⟩ : Fin 6) = ⟨k.val / 128, by omega⟩ := Fin.ext (by simp only []; omega)
    simp only [h1, h2]
  rw [e, ← nibLo_select]
  pointwise [projLo]
  rfl

/-- An odd column of the projector. -/
theorem projHi_at (a2 : Vec Ideal S256x768 .i8) (a3 : Vec Ideal S256x6 .f32) (j : Fin 256) (k : Fin 768) :
    projHi (F := Ideal) a2 a3 (ix2 j k)
      = decode (fun k => a2 (ix2 j k)) (fun g => a3 (ix2 j g)) ⟨1 + 2 * k.val, by omega⟩ := by
  have e : decode (fun k => a2 (ix2 j k)) (fun g => a3 (ix2 j g)) ⟨1 + 2 * k.val, by omega⟩
      = ((nibHi (a2 (ix2 j k)) : ℝ) : EReal) * a3 (ix2 j ⟨k.val / 128, by omega⟩) := by
    unfold decode
    rw [if_neg (by simp only []; omega)]
    have h1 : (⟨(1 + 2 * k.val) / 2, by omega⟩ : Fin 768) = k := Fin.ext (by simp only []; omega)
    have h2 : (⟨(1 + 2 * k.val) / 256, by omega⟩ : Fin 6) = ⟨k.val / 128, by omega⟩ := Fin.ext (by simp only []; omega)
    simp only [h1, h2]
  rw [e, ← nibHi_select]
  pointwise [projHi]
  rfl

/-- The projected gradient: the sum over even columns plus the sum over odd ones. -/
theorem red_at (g : Vec Ideal S8960x1536 .bf16) (lo hi : Vec Ideal S256x768 .bf16) (o : Fin 8960) (j : Fin 256) :
    red (F := Ideal) g lo hi (ix2 o j)
      = (∑ k : Fin 768, (g (ix2 o ⟨2 * k.val, by omega⟩) * lo (ix2 j k) : EReal))
        + ∑ k : Fin 768, (g (ix2 o ⟨1 + 2 * k.val, by omega⟩) * hi (ix2 j k) : EReal) := by
  pointwise [red]

/-- The new first moment. -/
theorem mom1_at (c : Vec Ideal S8960x256 .i8) (q : Vec Ideal S8960x2 .f32) (r : Vec Ideal S8960x256 .f32)
    (o : Fin 8960) (j : Fin 256) :
    mom1 (F := Ideal) c q r (ix2 o j) = momM (c (ix2 o j)) (q (ix2 o (grp j))) (r (ix2 o j)) := by
  unfold momM
  rw [← sitofp_signExtend]
  pointwise [mom1]
  rfl

/-- The new second moment. -/
theorem mom2_at (c : Vec Ideal S8960x256 .i8) (q : Vec Ideal S8960x2 .f32) (r : Vec Ideal S8960x256 .f32)
    (o : Fin 8960) (j : Fin 256) :
    mom2 (F := Ideal) c q r (ix2 o j) = momV (c (ix2 o j)) (q (ix2 o (grp j))) (r (ix2 o j)) := by
  unfold momV
  rw [← sitofp_signExtend]
  pointwise [mom2]
  rfl

/-- The scale of a group. -/
theorem scales_at (x : Vec Ideal S8960x256 .f32) (o : Fin 8960) (g : Fin 2) :
    scales (F := Ideal) x (ix2 o g) = scaleOf (amax fun k => x (ix2 o (lane g k))) := by
  have e : (fun k : Fin 128 => (x (ix2 o (lane g k)) : EReal))
      = fun k : Fin 128 => x (ix2 o ⟨g.val * 128 + k.val, by omega⟩) := by
    funext k
    exact congrArg (fun l => x (ix2 o l)) (Fin.ext (by simp only [lane]; omega))
  have h1 : Ideal.ofBits .f32 0x3F800000#32 = 1 := by simp
  rw [e]
  unfold scaleOf amax
  pointwise [scales]
  exact if_congr Iff.rfl h1 rfl

/-- The code of a number under its group's scale. -/
theorem codes_at (x : Vec Ideal S8960x256 .f32) (q : Vec Ideal S8960x2 .f32) (o : Fin 8960) (j : Fin 256) :
    codes (F := Ideal) x q (ix2 o j) = quant (x (ix2 o j)) (q (ix2 o (grp j))) := by
  unfold quant
  rw [← clampByte_word]
  pointwise [codes]
  rfl

/-- Adam's direction. -/
theorem dir_at (x v : Vec Ideal S8960x256 .f32) (o : Fin 8960) (j : Fin 256) :
    dir (F := Ideal) x v (ix2 o j) = dirOf (x (ix2 o j)) (v (ix2 o j)) := by
  pointwise [dir]
  rfl

/-- The new code of a weight. -/
theorem weight_at (c : Vec Ideal S8960x1536 .i8) (q : Vec Ideal S8960 .f32) (δ : Vec Ideal S8960x1536 .f32)
    (u : Vec Ideal S8960x1536 .i8) (o : Fin 8960) (d : Fin 1536) :
    weight (F := Ideal) c q δ u (ix2 o d) = stoch (c (ix2 o d)) (q (ix1 o)) (δ (ix2 o d)) (u (ix2 o d)) := by
  unfold stoch
  rw [← clampByte_word, ← sitofp_signExtend]
  pointwise [weight]

/-! ## The stages of the arguments, as the update of a row -/
section
variable (m : (ℓ : Loc nD τ sig) → Buf (Elt Ideal) ℓ) (c : Dev nD)

/-- What the update of output row `o` reads, taken from the arguments. -/
def rRow (o : Fin 8960) : Row where
  X d t := a0 m c (ix3 ⟨t.val / 384, by omega⟩ ⟨t.val % 384, by omega⟩ d)
  D t := a1 m c (ix3 ⟨t.val / 384, by omega⟩ ⟨t.val % 384, by omega⟩ o)
  P j d := decode (fun k => a2 m c (ix2 j k)) (fun g => a3 m c (ix2 j g)) d
  mc j := a4 m c (ix2 o j)
  ms g := a5 m c (ix2 o g)
  vc j := a6 m c (ix2 o j)
  vs g := a7 m c (ix2 o g)
  wc d := a8 m c (ix2 o d)
  ws := a9 m c (ix1 o)
  sr d := a10 m c (ix2 o d)

variable (o : Fin 8960)

/-- The gradient of the weight: one sum over all tokens. -/
theorem G_at (d : Fin 1536) : G m c (ix2 o d) = ∑ t : Fin 1536, (rRow m c o).X d t * (rRow m c o).D t := by
  rw [sum_tokens]
  refine (grad_at _ _ o d).trans (Finset.sum_congr rfl fun b _ => Finset.sum_congr rfl fun s _ => ?_)
  have h1 : (⟨(384 * b.val + s.val) / 384, by omega⟩ : Fin 4) = b := Fin.ext (by simp only []; omega)
  have h2 : (⟨(384 * b.val + s.val) % 384, by omega⟩ : Fin 384) = s := Fin.ext (by simp only []; omega)
  simp only [rRow, h1, h2]
  exact mul_comm _ _

/-- The projected gradient. -/
theorem R_at (j : Fin 256) : R m c (ix2 o j) = (rRow m c o).r j := by
  unfold Row.r
  rw [sum_pairs]
  refine (red_at _ _ _ o j).trans (congrArg₂ (· + ·) ?_ ?_)
  · refine Finset.sum_congr rfl fun k _ => (mul_comm _ _).trans (congrArg₂ (· * ·) ?_ (G_at m c o _))
    exact projLo_at _ _ j k
  · refine Finset.sum_congr rfl fun k _ => (mul_comm _ _).trans (congrArg₂ (· * ·) ?_ (G_at m c o _))
    exact projHi_at _ _ j k

/-- The new first moment. -/
theorem M_at (j : Fin 256) : M m c (ix2 o j) = (rRow m c o).m j :=
  (mom1_at _ _ _ o j).trans (congrArg (momM _ _) (R_at m c o j))

/-- The new second moment. -/
theorem V_at (j : Fin 256) : V m c (ix2 o j) = (rRow m c o).v j :=
  (mom2_at _ _ _ o j).trans (congrArg (momV _ _) (R_at m c o j))

/-- The direction. -/
theorem N_at (j : Fin 256) : N m c (ix2 o j) = (rRow m c o).n j :=
  (dir_at _ _ o j).trans (congrArg₂ dirOf (M_at m c o j) (V_at m c o j))

/-- The scales of the first moment. -/
theorem mS_at (g : Fin 2) : scales (M m c) (ix2 o g) = (rRow m c o).mS g :=
  (scales_at _ o g).trans (congrArg (fun f => scaleOf (amax f)) (funext fun k => M_at m c o (lane g k)))

/-- The scales of the second moment. -/
theorem vS_at (g : Fin 2) : scales (V m c) (ix2 o g) = (rRow m c o).vS g :=
  (scales_at _ o g).trans (congrArg (fun f => scaleOf (amax f)) (funext fun k => V_at m c o (lane g k)))

/-- The codes of the first moment. -/
theorem mC_at (j : Fin 256) : codes (M m c) (scales (M m c)) (ix2 o j) = (rRow m c o).mC j :=
  (codes_at _ _ o j).trans (congrArg₂ quant (M_at m c o j) (mS_at m c o (grp j)))

/-- The codes of the second moment. -/
theorem vC_at (j : Fin 256) : codes (V m c) (scales (V m c)) (ix2 o j) = (rRow m c o).vC j :=
  (codes_at _ _ o j).trans (congrArg₂ quant (V_at m c o j) (vS_at m c o (grp j)))

/-- The step. -/
theorem delta_at (d : Fin 1536) : Δ m c (ix2 o d) = (rRow m c o).delta d := by
  refine (step_at _ _ _ o d).trans (congrArg (Ideal.ofBits .f32 0x3A83126F#32 * ·) ?_)
  by_cases h : d.val % 2 < 1
  · rw [if_pos h]
    refine Finset.sum_congr rfl fun x _ => congrArg₂ (· * ·) (N_at m c o x) ?_
    refine (projLo_at _ _ x _).trans (congrArg (decode _ _) (Fin.ext ?_))
    simp only []
    omega
  · rw [if_neg h]
    refine Finset.sum_congr rfl fun x _ => congrArg₂ (· * ·) (N_at m c o x) ?_
    refine (projHi_at _ _ x _).trans (congrArg (decode _ _) (Fin.ext ?_))
    simp only []
    omega

/-- The new codes of the weight. -/
theorem w_at (d : Fin 1536) : weight (a8 m c) (a9 m c) (Δ m c) (a10 m c) (ix2 o d) = (rRow m c o).w d :=
  (weight_at _ _ _ _ o d).trans (congrArg (fun z => stoch _ _ z _) (delta_at m c o d))

end
end Cert.ReferenceIdeal.Stage
end
-- ==== Proof.Equation.lean ====
module

public import proofs.«01_k».proof.Proof.Run
public import proofs.«01_k».proof.Proof.RefValue

@[expose] public section

set_option maxRecDepth 16384

noncomputable section

open Idealize.ShloMosaic Idealize.ShloMosaic.TcCoe Idealize.SL.Sem

/-!
# The equation

The kernel and the reference read the same numbers for every output row, so their results are equal.
-/
namespace Cert.Equation
open Cert.Galore Cert.KernelIdeal.Block Cert.ReferenceIdeal.Stage

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-! ## The operands of the region at an index -/
section
open Cert.KernelIdeal Cert.KernelIdeal.Gen

/-- The reshape of operand 0 at an index. -/
theorem reshape0 (x : Vec Ideal S4x384x1536 .bf16) (t d : Fin 1536) : shapeCast S1536x1536 x shapeCasts_S4x384x1536_S1536x1536 (ix2 t d) = x (ix3 ⟨t.val / 384, by omega⟩ ⟨t.val % 384, by omega⟩ d) := by
  pointwise []
/-- The reshape of operand 1 at an index. -/
theorem reshape1 (x : Vec Ideal S4x384x8960 .bf16) (t : Fin 1536) (o : Fin 8960) : shapeCast S1536x8960 x shapeCasts_S4x384x8960_S1536x8960 (ix2 t o) = x (ix3 ⟨t.val / 384, by omega⟩ ⟨t.val % 384, by omega⟩ o) := by
  pointwise []
/-- The reshape of operand 9 at an index. -/
theorem reshape9 (x : Vec Ideal S8960 .f32) (o : Fin 8960) : shapeCast S1x8960 x shapeCasts_S8960_S1x8960 (ix2 (0 : Fin 1) o) = x (ix1 o) := by
  pointwise []
/-- The transpose of the projector's scales at an index. -/
theorem transpose3 (x : Vec Ideal S256x6 .f32) (g : Fin 6) (k : Fin 256) : transpose S6x256 [1, 0] x transposes_S256x6_S6x256_1_0 (ix2 g k) = x (ix2 k g) := by
  pointwise []
/-- The transpose of a moment's scales at an index. -/
theorem transpose5 (x : Vec Ideal S8960x2 .f32) (g : Fin 2) (o : Fin 8960) : transpose S2x8960 [1, 0] x transposes_S8960x2_S2x8960_1_0 (ix2 g o) = x (ix2 o g) := by
  pointwise []

/-- The row `o` of operands as the program is given them. -/
def rowOf (x0 : Vec Ideal S4x384x1536 .bf16) (x1 : Vec Ideal S4x384x8960 .bf16) (x2 : Vec Ideal S256x768 .i8) (x3 : Vec Ideal S256x6 .f32) (x4 : Vec Ideal S8960x256 .i8) (x5 : Vec Ideal S8960x2 .f32) (x6 : Vec Ideal S8960x256 .i8) (x7 : Vec Ideal S8960x2 .f32) (x8 : Vec Ideal S8960x1536 .i8) (x9 : Vec Ideal S8960 .f32) (x10 : Vec Ideal S8960x1536 .i8) (o : Fin 8960) : Row where
  X d t := x0 (ix3 ⟨t.val / 384, by omega⟩ ⟨t.val % 384, by omega⟩ d)
  D t := x1 (ix3 ⟨t.val / 384, by omega⟩ ⟨t.val % 384, by omega⟩ o)
  P j d := decode (fun k => x2 (ix2 j k)) (fun g => x3 (ix2 j g)) d
  mc j := x4 (ix2 o j)
  ms g := x5 (ix2 o g)
  vc j := x6 (ix2 o j)
  vs g := x7 (ix2 o g)
  wc d := x8 (ix2 o d)
  ws := x9 (ix1 o)
  sr d := x10 (ix2 o d)

/-- The row `o` of operands as the region reads them: a row per token, the scales transposed. -/
def opRow (y0 : Vec Ideal S1536x1536 .bf16) (y1 : Vec Ideal S1536x8960 .bf16) (y2 : Vec Ideal S256x768 .i8) (y3 : Vec Ideal S6x256 .f32) (y4 : Vec Ideal S8960x256 .i8) (y5 : Vec Ideal S2x8960 .f32) (y6 : Vec Ideal S8960x256 .i8) (y7 : Vec Ideal S2x8960 .f32) (y8 : Vec Ideal S8960x1536 .i8) (y9 : Vec Ideal S1x8960 .f32) (y10 : Vec Ideal S8960x1536 .i8) (o : Fin 8960) : Row where
  X d t := y0 (ix2 t d)
  D t := y1 (ix2 t o)
  P k d := decode (fun j => y2 (ix2 k j)) (fun g => y3 (ix2 g k)) d
  mc j := y4 (ix2 o j)
  ms g := y5 (ix2 g o)
  vc j := y6 (ix2 o j)
  vs g := y7 (ix2 g o)
  wc d := y8 (ix2 o d)
  ws := y9 (ix2 0 o)
  sr d := y10 (ix2 o d)

/-- Two rows with the same fields are the same row. -/
theorem row_ext {a b : Row} (hX : a.X = b.X) (hD : a.D = b.D) (hP : a.P = b.P) (hmc : a.mc = b.mc) (hms : a.ms = b.ms)
    (hvc : a.vc = b.vc) (hvs : a.vs = b.vs) (hwc : a.wc = b.wc) (hws : a.ws = b.ws) (hsr : a.sr = b.sr) : a = b := by
  cases a; cases b
  cases hX; cases hD; cases hP; cases hmc; cases hms; cases hvc; cases hvs; cases hwc; cases hws; cases hsr
  rfl

/-- Reshaping and transposing the operands does not change the row read. -/
theorem opRow_host (x0 : Vec Ideal S4x384x1536 .bf16) (x1 : Vec Ideal S4x384x8960 .bf16) (x2 : Vec Ideal S256x768 .i8) (x3 : Vec Ideal S256x6 .f32) (x4 : Vec Ideal S8960x256 .i8) (x5 : Vec Ideal S8960x2 .f32) (x6 : Vec Ideal S8960x256 .i8) (x7 : Vec Ideal S8960x2 .f32) (x8 : Vec Ideal S8960x1536 .i8) (x9 : Vec Ideal S8960 .f32) (x10 : Vec Ideal S8960x1536 .i8) (o : Fin 8960) :
    opRow (shapeCast S1536x1536 x0 shapeCasts_S4x384x1536_S1536x1536) (shapeCast S1536x8960 x1 shapeCasts_S4x384x8960_S1536x8960) x2
      (transpose S6x256 [1, 0] x3 transposes_S256x6_S6x256_1_0) x4 (transpose S2x8960 [1, 0] x5 transposes_S8960x2_S2x8960_1_0) x6
      (transpose S2x8960 [1, 0] x7 transposes_S8960x2_S2x8960_1_0) x8 (shapeCast S1x8960 x9 shapeCasts_S8960_S1x8960) x10 o
    = rowOf x0 x1 x2 x3 x4 x5 x6 x7 x8 x9 x10 o := by
  apply row_ext
  · exact funext fun d => funext fun t => reshape0 x0 t d
  · exact funext fun t => reshape1 x1 t o
  · exact funext fun k => congrArg (fun s => decode (fun j => x2 (ix2 k j)) s) (funext fun g => transpose3 x3 g k)
  · rfl
  · exact funext fun g => transpose5 x5 g o
  · rfl
  · exact funext fun g => transpose5 x7 g o
  · rfl
  · exact reshape9 x9 o
  · rfl

end

/-- The kernel's row `o` is that of its arguments. -/
theorem kRow_eq (o : Fin 8960) : kRow m c o = rowOf
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) o := by
  refine Eq.trans (b := opRow (op0 m c) (op1 m c) (op2 m c) (op3 m c) (op4 m c) (op5 m c) (op6 m c) (op7 m c) (op8 m c) (op9 m c) (op10 m c) o) rfl ?_
  rw [op0_eq, op1_eq, op3_eq, op5_eq, op7_eq, op9_eq, show op2 m c = _ from Cert.KernelIdeal.Gen.V_main_arg2 m c, show op4 m c = _ from Cert.KernelIdeal.Gen.V_main_arg4 m c, show op6 m c = _ from Cert.KernelIdeal.Gen.V_main_arg6 m c, show op8 m c = _ from Cert.KernelIdeal.Gen.V_main_arg8 m c, show op10 m c = _ from Cert.KernelIdeal.Gen.V_main_arg10 m c]
  exact opRow_host _ _ _ _ _ _ _ _ _ _ _ o

/-- The reference's row `o` is that of its arguments. -/
theorem rRow_eq (o : Fin 8960) : rRow m' c o = rowOf
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10)) o := rfl

/-- On equal arguments the kernel and the reference read the same numbers for output row `o`. -/
theorem row_eq
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
  (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (o : Fin 8960) : kRow m c o = rRow m' c o := by
  rw [kRow_eq, rRow_eq, h0, h1, h2, h3, h4, h5, h6, h7, h8, h9, h10]

/-- Result 1, the new weight codes: equal when the rows read are. -/
theorem out0 (h : ∀ o, kRow m c o = rRow m' c o) :
    (Cert.ReferenceIdeal.Value.res_main_v117 m' c : Vec Ideal Cert.ReferenceIdeal.S8960x1536 .i8) = arr11 m c := by
  refine (res_w m' c).trans (funext fun i => ?_)
  rw [eq_ix2 i]
  refine (w_at m' c (i 0) (i 1)).trans ?_
  exact congrArg (fun a : Row => a.w (i 1)) (h (i 0)).symm

/-- Result 2, the step: equal when the rows read are. -/
theorem out1 (h : ∀ o, kRow m c o = rRow m' c o) :
    (Cert.ReferenceIdeal.Value.res_main_v99 m' c : Vec Ideal Cert.ReferenceIdeal.S8960x1536 .f32) = arr12 m c := by
  refine (res_delta m' c).trans (funext fun i => ?_)
  rw [eq_ix2 i]
  refine (delta_at m' c (i 0) (i 1)).trans ?_
  exact congrArg (fun a : Row => a.delta (i 1)) (h (i 0)).symm

/-- Result 3, the direction: equal when the rows read are. -/
theorem out2 (h : ∀ o, kRow m c o = rRow m' c o) :
    (Cert.ReferenceIdeal.Value.res_main_v58 m' c : Vec Ideal Cert.ReferenceIdeal.S8960x256 .f32) = arr13 m c := by
  refine (res_n m' c).trans (funext fun i => ?_)
  rw [eq_ix2 i]
  refine (N_at m' c (i 0) (i 1)).trans ?_
  exact congrArg (fun a : Row => a.n (i 1)) (h (i 0)).symm

/-- Result 4, the first moment's codes: equal when the rows read are. -/
theorem out3 (h : ∀ o, kRow m c o = rRow m' c o) :
    (Cert.ReferenceIdeal.Value.res_main_v74 m' c : Vec Ideal Cert.ReferenceIdeal.S8960x256 .i8) = arr14 m c := by
  refine (res_mC m' c).trans (funext fun i => ?_)
  rw [eq_ix2 i]
  refine (mC_at m' c (i 0) (i 1)).trans ?_
  exact congrArg (fun a : Row => a.mC (i 1)) (h (i 0)).symm

/-- Result 5, the first moment's scales: equal when the rows read are. -/
theorem out4 (h : ∀ o, kRow m c o = rRow m' c o) :
    (Cert.ReferenceIdeal.Value.res_main_v66 m' c : Vec Ideal Cert.ReferenceIdeal.S8960x2 .f32) = res4 m c := by
  refine (res_mS m' c).trans (funext fun i => ?_)
  rw [eq_ix2 i]
  refine (mS_at m' c (i 0) (i 1)).trans ?_
  exact congrArg (fun a : Row => a.mS (i 1)) (h (i 0)).symm

/-- Result 6, the second moment's codes: equal when the rows read are. -/
theorem out5 (h : ∀ o, kRow m c o = rRow m' c o) :
    (Cert.ReferenceIdeal.Value.res_main_v90 m' c : Vec Ideal Cert.ReferenceIdeal.S8960x256 .i8) = arr16 m c := by
  refine (res_vC m' c).trans (funext fun i => ?_)
  rw [eq_ix2 i]
  refine (vC_at m' c (i 0) (i 1)).trans ?_
  exact congrArg (fun a : Row => a.vC (i 1)) (h (i 0)).symm

/-- Result 7, the second moment's scales: equal when the rows read are. -/
theorem out6 (h : ∀ o, kRow m c o = rRow m' c o) :
    (Cert.ReferenceIdeal.Value.res_main_v82 m' c : Vec Ideal Cert.ReferenceIdeal.S8960x2 .f32) = res6 m c := by
  refine (res_vS m' c).trans (funext fun i => ?_)
  rw [eq_ix2 i]
  refine (vS_at m' c (i 0) (i 1)).trans ?_
  exact congrArg (fun a : Row => a.vS (i 1)) (h (i 0)).symm

end Cert.Equation
end
-- ==== Proof.lean ====
module

public import Idealize.ShloMosaic.Lib.Bf16Pair
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import Idealize.ShloMosaic.Init
public import proofs.«01_k».proof.Proof.Equation

@[expose] public section

noncomputable section

/-!
# The certificate

The three programs end with their arguments unchanged and every counter at zero; the rewrites that take the
kernel to its ideal form keep its meaning; and the ideal kernel and the reference, on equal arguments, end
with equal results: the new weight codes, the step, the direction, and the codes and scales of both moments.
-/

namespace Cert.Proof

open Idealize.ShloMosaic Idealize.SL.Sem Cert.Kernel

/-- The reference ends with its arguments unchanged and, having no semaphore, with every counter at zero. -/
theorem reference_frame : Cert.quiescent_ReferenceIdeal (hReferenceIdeal := Cert.ReferenceIdeal.Gen.facts) := by
  intro m ρ _
  refine (θ_run _ _ _).mono (fun r h => ⟨fun c => ?_, Idealize.ShloMosaic.sem_eq_zero_of_no_sems (by decide) r.2⟩)
    (Cert.ReferenceIdeal.Value.run (F := Ideal) m ρ)
  obtain ⟨_, _, _, _, _, _, _, rest⟩ := h c
  exact rest

/-- The ideal kernel and the reference, on equal arguments, end with equal results. -/
theorem algebraic : Cert.algebraic_KernelIdeal_ReferenceIdeal
    (hKernelIdeal := Cert.KernelIdeal.Gen.facts) (hReferenceIdeal := Cert.ReferenceIdeal.Gen.facts) := by
  intro m g m' g' _ hargs
  have hrow : ∀ (c : Dev Cert.KernelIdeal.nD) (o : Fin 8960),
      Cert.KernelIdeal.Block.kRow m c o = Cert.ReferenceIdeal.Stage.rRow m' c o := by
    intro c o
    obtain ⟨h0, h1, h2, h3, h4, h5, h6, h7, h8, h9, h10⟩ := hargs c
    exact Cert.Equation.row_eq m m' c h0 h1 h2 h3 h4 h5 h6 h7 h8 h9 h10 o
  refine ⟨fun c => Cert.KernelIdeal.Block.arr11 m c, fun c => Cert.KernelIdeal.Block.arr12 m c, fun c => Cert.KernelIdeal.Block.arr13 m c, fun c => Cert.KernelIdeal.Block.arr14 m c, fun c => Cert.KernelIdeal.Block.res4 m c, fun c => Cert.KernelIdeal.Block.arr16 m c, fun c => Cert.KernelIdeal.Block.res6 m c,
    Cert.KernelIdeal.Block.run_values m g, ?_⟩
  refine (θ_run _ _ _).mono (fun r h c => ?_) (Cert.ReferenceIdeal.Value.run (F := Ideal) m' g')
  obtain ⟨r0, r1, r2, r3, r4, r5, r6, rest⟩ := h c
  exact ⟨r0.trans (Cert.Equation.out0 m m' c (hrow c)), r1.trans (Cert.Equation.out1 m m' c (hrow c)), r2.trans (Cert.Equation.out2 m m' c (hrow c)), r3.trans (Cert.Equation.out3 m m' c (hrow c)), r4.trans (Cert.Equation.out4 m m' c (hrow c)), r5.trans (Cert.Equation.out5 m m' c (hrow c)), r6.trans (Cert.Equation.out6 m m' c (hrow c)), rest⟩

/-- Everything `Cert.Claim` states. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame,
  ⟨IdealRules.bf16_pair.packStatement _, IdealRules.bf16_pair.statement _ _⟩, algebraic⟩

end Cert.Proof

end
